-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S2x1024x512 : Shape := ⟨3, ![2, 1024, 512]⟩
abbrev S4 : Shape := ⟨1, ![4]⟩
abbrev S4x8x128 : Shape := ⟨3, ![4, 8, 128]⟩
abbrev S3 : Shape := ⟨1, ![3]⟩
abbrev S_ : Shape := ⟨0, ![]⟩
abbrev S1 : Shape := ⟨1, ![1]⟩
abbrev S1024x512 : Shape := ⟨2, ![1024, 512]⟩
abbrev S1x1024x512 : Shape := ⟨3, ![1, 1024, 512]⟩
abbrev S1x1x1 : Shape := ⟨3, ![1, 1, 1]⟩
abbrev S4096x256 : Shape := ⟨2, ![4096, 256]⟩
abbrev S1024x256 : Shape := ⟨2, ![1024, 256]⟩
abbrev S8x128 : Shape := ⟨2, ![8, 128]⟩
abbrev S1x8x128 : Shape := ⟨3, ![1, 8, 128]⟩
abbrev S1x1024x256 : Shape := ⟨3, ![1, 1024, 256]⟩
abbrev S1x4x8x128 : Shape := ⟨4, ![1, 4, 8, 128]⟩
abbrev S1x1x1x1 : Shape := ⟨4, ![1, 1, 1, 1]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | .local _ .vmem, ⟨6, _⟩ => ⟨S2x1024x512, .f32⟩
  | .local _ .vmem, ⟨7, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch8 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_29 : BitVec 32 := 1#32
  let v42 : BitVec 32 := Scalar.muli v25 c1_i32_29
  let v43 : BitVec 32 := Scalar.addi c0_i32_30 v42
  v43.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_33 : BitVec 32 := 1#32
  let v48 : BitVec 32 := Scalar.muli v14 c1_i32_33
  let v49 : BitVec 32 := Scalar.addi c0_i32_34 v48
  v49.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v61 : BitVec 32 := Scalar.muli v2 c1024_i32
  let v62 : Index := Scalar.indexCast v61
  let c0_39 : Index := 0#32
  ![v62.toNat, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_47 : BitVec 32 := 1#32
  let v72 : BitVec 32 := Scalar.muli v25 c1_i32_47
  let v73 : BitVec 32 := Scalar.addi c0_i32_48 v72
  v73.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_58 : BitVec 32 := 1#32
  let v84 : BitVec 32 := Scalar.muli v14 c1_i32_58
  let v85 : BitVec 32 := Scalar.addi c0_i32_59 v84
  v85.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_76 : BitVec 32 := 1024#32
  let v108 : BitVec 32 := Scalar.muli v2 c1024_i32_76
  let c0_i32_82 : BitVec 32 := 0#32
  ![v108.toNat, 0]
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_80 : BitVec 32 := 1#32
  let v109 : BitVec 32 := Scalar.muli v14 c1_i32_80
  let v110 : BitVec 32 := Scalar.addi c0_i32_81 v109
  v110.toNat
def k0_dev8 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_101 : BitVec 32 := 1#32
  let v135 : BitVec 32 := Scalar.muli v25 c1_i32_101
  let v136 : BitVec 32 := Scalar.addi c0_i32_102 v135
  v136.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_140 : BitVec 32 := 1024#32
  let v175 : BitVec 32 := Scalar.muli v2 c1024_i32_140
  let c0_i32_145 : BitVec 32 := 0#32
  ![v175.toNat, 0]
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_143 : BitVec 32 := 1#32
  let v176 : BitVec 32 := Scalar.muli v36 c1_i32_143
  let v177 : BitVec 32 := Scalar.addi c0_i32_144 v176
  v177.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_148 : BitVec 32 := 1024#32
  let v184 : BitVec 32 := Scalar.muli v2 c1024_i32_148
  let c256_i32_153 : BitVec 32 := 256#32
  ![v184.toNat, 256]
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1_i32_151 : BitVec 32 := 1#32
  let v185 : BitVec 32 := Scalar.muli v36 c1_i32_151
  let v186 : BitVec 32 := Scalar.addi c0_i32_152 v185
  v186.toNat
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v194 : Index := Scalar.indexCast v2
  let c0_156 : Index := 0#32
  let c0_157 : Index := 0#32
  ![v194.toNat, 0, 0]
def k0_off6 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_168 : BitVec 32 := 0#32
  let c0_i32_169 : BitVec 32 := 0#32
  ![v2.toNat, 0, 0]
def k0_dev11 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_158 : BitVec 32 := 1#32
  let v198 : BitVec 32 := Scalar.addi v2 c1_i32_158
  let c4_i32_159 : BitVec 32 := 4#32
  let c0_i32_160 : BitVec 32 := 0#32
  let v199 : BitVec 1 := Scalar.cmpi .eq c4_i32_159 c0_i32_160
  let c1_i32_161 : BitVec 32 := 1#32
  let v200 : BitVec 32 := Scalar.select v199 c1_i32_161 c4_i32_159
  let v201 : BitVec 32 := Scalar.remsi v198 v200
  let c0_i32_163 : BitVec 32 := 0#32
  let v203 : BitVec 1 := Scalar.cmpi .slt v201 c0_i32_163
  let c0_i32_164 : BitVec 32 := 0#32
  let v204 : BitVec 1 := Scalar.cmpi .slt v200 c0_i32_164
  let v205 : BitVec 1 := Scalar.xori v203 v204
  let c0_i32_162 : BitVec 32 := 0#32
  let v202 : BitVec 1 := Scalar.cmpi .ne v201 c0_i32_162
  let v206 : BitVec 1 := Scalar.andi v205 v202
  let v207 : BitVec 32 := Scalar.addi v201 v200
  let v208 : BitVec 32 := Scalar.select v206 v207 v201
  let c1_i32_166 : BitVec 32 := 1#32
  let v209 : BitVec 32 := Scalar.muli v208 c1_i32_166
  let v210 : BitVec 32 := Scalar.addi c0_i32_167 v209
  v210.toNat
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_172 : BitVec 32 := 2#32
  let v219 : BitVec 32 := Scalar.addi v2 c2_i32_172
  let c4_i32_173 : BitVec 32 := 4#32
  let c0_i32_174 : BitVec 32 := 0#32
  let v220 : BitVec 1 := Scalar.cmpi .eq c4_i32_173 c0_i32_174
  let c1_i32_175 : BitVec 32 := 1#32
  let v221 : BitVec 32 := Scalar.select v220 c1_i32_175 c4_i32_173
  let v222 : BitVec 32 := Scalar.remsi v219 v221
  let c0_i32_177 : BitVec 32 := 0#32
  let v224 : BitVec 1 := Scalar.cmpi .slt v222 c0_i32_177
  let c0_i32_178 : BitVec 32 := 0#32
  let v225 : BitVec 1 := Scalar.cmpi .slt v221 c0_i32_178
  let v226 : BitVec 1 := Scalar.xori v224 v225
  let c0_i32_176 : BitVec 32 := 0#32
  let v223 : BitVec 1 := Scalar.cmpi .ne v222 c0_i32_176
  let v227 : BitVec 1 := Scalar.andi v226 v223
  let v228 : BitVec 32 := Scalar.addi v222 v221
  let v229 : BitVec 32 := Scalar.select v227 v228 v222
  let c1_i32_180 : BitVec 32 := 1#32
  let v230 : BitVec 32 := Scalar.muli v229 c1_i32_180
  let v231 : BitVec 32 := Scalar.addi c0_i32_181 v230
  v231.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_186 : BitVec 32 := 3#32
  let v240 : BitVec 32 := Scalar.addi v2 c3_i32_186
  let c4_i32_187 : BitVec 32 := 4#32
  let c0_i32_188 : BitVec 32 := 0#32
  let v241 : BitVec 1 := Scalar.cmpi .eq c4_i32_187 c0_i32_188
  let c1_i32_189 : BitVec 32 := 1#32
  let v242 : BitVec 32 := Scalar.select v241 c1_i32_189 c4_i32_187
  let v243 : BitVec 32 := Scalar.remsi v240 v242
  let c0_i32_191 : BitVec 32 := 0#32
  let v245 : BitVec 1 := Scalar.cmpi .slt v243 c0_i32_191
  let c0_i32_192 : BitVec 32 := 0#32
  let v246 : BitVec 1 := Scalar.cmpi .slt v242 c0_i32_192
  let v247 : BitVec 1 := Scalar.xori v245 v246
  let c0_i32_190 : BitVec 32 := 0#32
  let v244 : BitVec 1 := Scalar.cmpi .ne v243 c0_i32_190
  let v248 : BitVec 1 := Scalar.andi v247 v244
  let v249 : BitVec 32 := Scalar.addi v243 v242
  let v250 : BitVec 32 := Scalar.select v248 v249 v243
  let c1_i32_194 : BitVec 32 := 1#32
  let v251 : BitVec 32 := Scalar.muli v250 c1_i32_194
  let v252 : BitVec 32 := Scalar.addi c0_i32_195 v251
  v252.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1024_i32_200 : BitVec 32 := 1024#32
  let v261 : BitVec 32 := Scalar.muli v14 c1024_i32_200
  let c0_i32_206 : BitVec 32 := 0#32
  ![v261.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1024_i32_209 : BitVec 32 := 1024#32
  let v269 : BitVec 32 := Scalar.muli v25 c1024_i32_209
  let c0_i32_215 : BitVec 32 := 0#32
  ![v269.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1024_i32_218 : BitVec 32 := 1024#32
  let v277 : BitVec 32 := Scalar.muli v36 c1024_i32_218
  let c0_i32_224 : BitVec 32 := 0#32
  ![v277.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c1024_i32_227 : BitVec 32 := 1024#32
  let v285 : BitVec 32 := Scalar.muli v36 c1024_i32_227
  let c256_i32_233 : BitVec 32 := 256#32
  ![v285.toNat, 256]
def k0_off12 (d0 : Dev nD) (c1_i32_236 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v293 : BitVec 32 := Scalar.addi v2 c1_i32_236
  let c4_i32_237 : BitVec 32 := 4#32
  let c0_i32_238 : BitVec 32 := 0#32
  let v294 : BitVec 1 := Scalar.cmpi .eq c4_i32_237 c0_i32_238
  let c1_i32_239 : BitVec 32 := 1#32
  let v295 : BitVec 32 := Scalar.select v294 c1_i32_239 c4_i32_237
  let v296 : BitVec 32 := Scalar.remsi v293 v295
  let c0_i32_241 : BitVec 32 := 0#32
  let v298 : BitVec 1 := Scalar.cmpi .slt v296 c0_i32_241
  let c0_i32_242 : BitVec 32 := 0#32
  let v299 : BitVec 1 := Scalar.cmpi .slt v295 c0_i32_242
  let v300 : BitVec 1 := Scalar.xori v298 v299
  let c0_i32_240 : BitVec 32 := 0#32
  let v297 : BitVec 1 := Scalar.cmpi .ne v296 c0_i32_240
  let v301 : BitVec 1 := Scalar.andi v300 v297
  let v302 : BitVec 32 := Scalar.addi v296 v295
  let v303 : BitVec 32 := Scalar.select v301 v302 v296
  ![v303.toNat]
def k0_off13 (d0 : Dev nD) (c1_i32_236 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v293 : BitVec 32 := Scalar.addi v2 c1_i32_236
  let c4_i32_237 : BitVec 32 := 4#32
  let c0_i32_238 : BitVec 32 := 0#32
  let v294 : BitVec 1 := Scalar.cmpi .eq c4_i32_237 c0_i32_238
  let c1_i32_239 : BitVec 32 := 1#32
  let v295 : BitVec 32 := Scalar.select v294 c1_i32_239 c4_i32_237
  let v296 : BitVec 32 := Scalar.remsi v293 v295
  let c0_i32_241 : BitVec 32 := 0#32
  let v298 : BitVec 1 := Scalar.cmpi .slt v296 c0_i32_241
  let c0_i32_242 : BitVec 32 := 0#32
  let v299 : BitVec 1 := Scalar.cmpi .slt v295 c0_i32_242
  let v300 : BitVec 1 := Scalar.xori v298 v299
  let c0_i32_240 : BitVec 32 := 0#32
  let v297 : BitVec 1 := Scalar.cmpi .ne v296 c0_i32_240
  let v301 : BitVec 1 := Scalar.andi v300 v297
  let v302 : BitVec 32 := Scalar.addi v296 v295
  let v303 : BitVec 32 := Scalar.select v301 v302 v296
  let c0_i32_246 : BitVec 32 := 0#32
  let c0_i32_247 : BitVec 32 := 0#32
  ![v303.toNat, 0, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x2048, .f32⟩
  | .local _ .vmem, ⟨0, _⟩ => ⟨S4096x2048, .f32⟩
  | .local _ .vmem, ⟨1, _⟩ => ⟨S1x1, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Setup.lean ====
/-
# The four devices, their buffers and semaphores, and the regions of the buffers that travel

Device `c` has a right neighbour `rt c`, a left neighbour `lf c` and the device opposite, `fr c`. This module names the
buffers and the semaphore cells, the index sets of the regions that the transfers move (blocks of rows, halves of
columns, slots), and the values each device computes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.ValueKit.Geometry
public import Idealize.ShloMosaic.Lib.ValueIdxCore

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The ghost state: the pipeline's own and one round structure over the cells, duties named by a Boolean -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at the start: any contents, every counter zero. -/
def s₀ : MemSt nD τ sig (Elt F) := ⟨m, fun _ => 0, ρ⟩

/-! ## The devices around the ring -/

set_option backward.proofsInPublic true in
/-- The device `h` places to the right of `c`. -/
def sh (h : ℕ) (c : Dev nD) : Dev nD := ⟨(c.val + h) % 4, Nat.mod_lt _ (by decide)⟩

abbrev rt (c : Dev nD) : Dev nD := sh 1 c
abbrev fr (c : Dev nD) : Dev nD := sh 2 c
abbrev lf (c : Dev nD) : Dev nD := sh 3 c

theorem lf_rt (c : Dev nD) : lf (rt c) = c := by revert c; decide
theorem rt_lf (c : Dev nD) : rt (lf c) = c := by revert c; decide
theorem fr_fr (c : Dev nD) : fr (fr c) = c := by revert c; decide
theorem rt_rt (c : Dev nD) : rt (rt c) = fr c := by revert c; decide
theorem lf_lf (c : Dev nD) : lf (lf c) = fr c := by revert c; decide
theorem rt_fr (c : Dev nD) : rt (fr c) = lf c := by revert c; decide
theorem lf_fr (c : Dev nD) : lf (fr c) = rt c := by revert c; decide

/-! The devices that the signals and transfers name. -/

theorem dev1_eq (c : Dev nD) : (⟨k0_dev1 c, k0_dev1_lt c⟩ : Dev nD) = lf c := by revert c; decide +kernel
theorem dev2_eq (c : Dev nD) : (⟨k0_dev2 c, k0_dev2_lt c⟩ : Dev nD) = rt c := by revert c; decide +kernel
theorem dev3_eq (c : Dev nD) : (⟨k0_dev3 c, k0_dev3_lt c⟩ : Dev nD) = rt c := by revert c; decide +kernel
theorem dev4_eq (c : Dev nD) : (⟨k0_dev4 c, k0_dev4_lt c⟩ : Dev nD) = lf c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lf c := by revert c; decide +kernel
theorem dev7_eq (c : Dev nD) : (⟨k0_dev7 c, k0_dev7_lt c⟩ : Dev nD) = lf c := by revert c; decide +kernel
theorem dev8_eq (c : Dev nD) : (⟨k0_dev8 c, k0_dev8_lt c⟩ : Dev nD) = rt c := by revert c; decide +kernel
theorem dev9_eq (c : Dev nD) : (⟨k0_dev9 c, k0_dev9_lt c⟩ : Dev nD) = fr c := by revert c; decide +kernel
theorem dev10_eq (c : Dev nD) : (⟨k0_dev10 c, k0_dev10_lt c⟩ : Dev nD) = fr c := by revert c; decide +kernel
theorem dev11_eq (c : Dev nD) : (⟨k0_dev11 c, k0_dev11_lt c⟩ : Dev nD) = rt c := by revert c; decide +kernel
theorem dev12_eq (c : Dev nD) : (⟨k0_dev12 c, k0_dev12_lt c⟩ : Dev nD) = fr c := by revert c; decide +kernel
theorem dev13_eq (c : Dev nD) : (⟨k0_dev13 c, k0_dev13_lt c⟩ : Dev nD) = lf c := by revert c; decide +kernel

/-! The offsets that the generated facts leave open. -/

theorem off8_eq (c : Dev nD) : k0_off8 c = ![1024 * (lf c).val, 0] := by revert c; decide +kernel
theorem off9_eq (c : Dev nD) : k0_off9 c = ![1024 * (rt c).val, 0] := by revert c; decide +kernel
theorem off10_eq (c : Dev nD) : k0_off10 c = ![1024 * (fr c).val, 0] := by revert c; decide +kernel
theorem off11_eq (c : Dev nD) : k0_off11 c = ![1024 * (fr c).val, 256] := by revert c; decide +kernel
theorem off13_1 (c : Dev nD) : k0_off13 c 1#32 = ![(rt c).val, 0, 0] := by revert c; decide +kernel
theorem off13_2 (c : Dev nD) : k0_off13 c 2#32 = ![(fr c).val, 0, 0] := by revert c; decide +kernel
theorem off13_3 (c : Dev nD) : k0_off13 c 3#32 = ![(lf c).val, 0, 0] := by revert c; decide +kernel

/-! ## The buffers -/

abbrev xM : Memref sig .tc .vmem S1024x4096 .f32 := Memref.whole cc0_stg0_0
abbrev wM : Memref sig .tc .vmem S4096x512 .f32 := Memref.whole cc0_stg1_0
abbrev oM : Memref sig .tc .vmem S4096x512 .f32 := Memref.whole cc0_stg2_0
abbrev rM : Memref sig .tc .vmem S4096x512 .f32 := Memref.whole cc0_scratch0
abbrev lM : Memref sig .tc .vmem S4096x512 .f32 := Memref.whole cc0_scratch1
abbrev fM : Memref sig .tc .vmem S4096x512 .f32 := Memref.whole cc0_scratch2
abbrev tM : Memref sig .tc .vmem S2x1024x512 .f32 := Memref.whole cc0_scratch3
abbrev aM : Memref sig .tc .vmem S4x8x128 .f32 := Memref.whole cc0_scratch8

/-- Device `c`'s buffer `b` on the index set `S`, at share `q`, holding `f`. -/
abbrev pts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

/-- The same at some contents, the whole share. -/
abbrev some_ (c : Dev nD) (b : Ref sig .tc) (S : Finset (Idx ((c : Thread nD τ).loc b))) : sProp 𝕄 :=
  iprop(∃ f : Buf (Elt F) ((c : Thread nD τ).loc b), pts c b S fullShare f)

/-! ## The regions -/

/-- The rows of block `d` of a 4096 × 512 array. -/
def rowS (d : Dev nD) : Finset S4096x512.Idx := Finset.univ.filter fun i => (i 0).val / 1024 = d.val
/-- The left and the right half of the columns. -/
def loS : Finset S4096x512.Idx := Finset.univ.filter fun i => (i 1).val < 256
def hiS : Finset S4096x512.Idx := Finset.univ.filter fun i => 256 ≤ (i 1).val
/-- The left and the right half of a block of rows. -/
def rowLo (d : Dev nD) : Finset S4096x512.Idx := Finset.univ.filter fun i => (i 0).val / 1024 = d.val ∧ (i 1).val < 256
def rowHi (d : Dev nD) : Finset S4096x512.Idx := Finset.univ.filter fun i => (i 0).val / 1024 = d.val ∧ 256 ≤ (i 1).val
/-- Slot `d` of the array of maxima, slot `j` of the tile buffer. -/
def slotS (d : Dev nD) : Finset S4x8x128.Idx := Finset.univ.filter fun i => (i 0).val = d.val
def tileS (j : Fin 2) : Finset S2x1024x512.Idx := Finset.univ.filter fun i => (i 0).val = j.val

/-! ## Semaphores -/

/-- The `n`-th DMA semaphore. -/
abbrev dq (n : ℕ) (h : n < 26 := by decide) : DmaSem sig := ⟨n, h⟩
abbrev barS : Sem sig := (SemArray.scalar (sig.barrier 0 rfl) : Sems sig S_).sem
/-- Device `c`'s barrier cell, and its `n`-th DMA cell. -/
abbrev barCell (c : Dev nD) : GSem nD τ sig := ((c : Thread nD τ), .reg barS)
abbrev cell (c : Dev nD) (q : DmaSem sig) : GSem nD τ sig := ((c : Thread nD τ), .dma q)

/-- The semaphore a device's maximum lands on: number 22 + its position. -/
theorem lt_amx (d : Dev nD) : 22 + d.val < 26 := by have : d.val < 4 := d.isLt; omega
abbrev amx (d : Dev nD) : DmaSem sig := ⟨22 + d.val, lt_amx d⟩

/-! ## What the devices compute -/

/-- Device `c`'s rows of `x`, and its columns of `w`. -/
def xv (c : Dev nD) : Vec F S1024x4096 .f32 :=
  (win0_0.blk (0 : Fin 1)).view.read (Elt F) ((s₀ m ρ).mem ((c : Thread nD τ).loc main_arg0))
def wv (c : Dev nD) : Vec F S4096x512 .f32 :=
  (win0_1.blk (0 : Fin 1)).view.read (Elt F) ((s₀ m ρ).mem ((c : Thread nD τ).loc main_arg1))

/-- The block of rows that an index lies in, and its place in the block. -/
def rdev (i : S4096x512.Idx) : Dev nD := ⟨(i 0).val / 1024, by have h : (i 0).val < 4096 := (i 0).isLt; show _ < 4; omega⟩
def ridx (i : S4096x512.Idx) : S1024x512.Idx := ix2 (n0 := 1024) (n1 := 512) ⟨(i 0).val % 1024, Nat.mod_lt _ (by decide)⟩ (i 1)
/-- The index in block `d` at place `x`. -/
def rin (d : Dev nD) (x : S1024x512.Idx) : S4096x512.Idx :=
  ix2 (n0 := 4096) (n1 := 512) ⟨1024 * d.val + (x 0).val, by have h : (x 0).val < 1024 := (x 0).isLt; have h' : d.val < 4 := d.isLt; show _ < 4096; omega⟩ (x 1)

theorem rdev_rin (d : Dev nD) (x : S1024x512.Idx) : rdev (rin d x) = d := by
  have h : (x 0).val < 1024 := (x 0).isLt
  refine Fin.ext ?_
  show (1024 * d.val + (x 0).val) / 1024 = d.val
  omega
theorem ridx_rin (d : Dev nD) (x : S1024x512.Idx) : ridx (rin d x) = x := by
  have h : (x 0).val < 1024 := (x 0).isLt
  funext a
  match a with
  | ⟨0, _⟩ => refine Fin.ext ?_; show (1024 * d.val + (x 0).val) % 1024 = (x 0).val; omega
  | ⟨1, _⟩ => rfl
theorem rin_rdev (i : S4096x512.Idx) : rin (rdev i) (ridx i) = i := by
  funext a
  match a with
  | ⟨0, _⟩ => refine Fin.ext ?_; show 1024 * ((i 0).val / 1024) + (i 0).val % 1024 = (i 0).val; omega
  | ⟨1, _⟩ => rfl

/-- Device `c`'s columns of the product, row block by row block, with the negative part cut off. -/
def outRaw (c : Dev nD) : Vec F S4096x512 .f32 := fun i => k0_pay1 (wv m ρ c) (xv m ρ (rdev i)) (ridx i)

/-- The largest entry of the four tiles that device `c` computes, in the order in which it computes them. -/
def amax (c : Dev nD) : F .f32 :=
  k0_pay10 (k0_pay8 (k0_pay5 (k0_pay3 (k0_pay2 (wv m ρ c) (xv m ρ c))) (k0_pay4 (wv m ρ (lf c)) (xv m ρ c)))
    (k0_pay7 (k0_pay6 (wv m ρ (rt c)) (xv m ρ c)))) (k0_pay9 (wv m ρ (fr c)) (xv m ρ c))

/-- The array of maxima once every device's has landed: slot `d` holds device `d`'s. -/
def amaxC : Vec F S4x8x128 .f32 := fun i => amax m ρ (⟨(i 0).val, (i 0).isLt⟩ : Fin 4)

/-- The result on device `c`: its columns of the product put through the quantiser. -/
def outFin (c : Dev nD) : Vec F S4096x512 .f32 := fun i =>
  k0_pay13 (amaxC m ρ) (fun x => outRaw m ρ c (rin (rdev i) x)) (ridx i)

end Cert.Exchange

end
-- ==== Proof.Schedule.lean ====
/-
# The protocol

Every cell is used once. A device's barrier cell collects one unit from each neighbour; the neighbour hands over, with
its unit, the regions of its own memory that this device will write into. Every DMA cell collects one transfer: a cell
on the sending side gives back what was read, a cell on the receiving side hands over what landed, with its contents.
-/
module

public import proofs.«01_k».proof.Proof.Setup

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Shares that the sends lend -/

abbrev qL : PosShare TreeShare := (fullShare : PosShare TreeShare).left
abbrev qR : PosShare TreeShare := (fullShare : PosShare TreeShare).right
abbrev qLL : PosShare TreeShare := qL.left
abbrev qLR : PosShare TreeShare := qL.right
abbrev qRL : PosShare TreeShare := qR.left
abbrev qRR : PosShare TreeShare := qR.right

/-! ## How much each transfer credits -/

abbrev loR : Rect S4096x512 := Rect.unit (s := S4096x512) ![0, 0] S4096x256.size inb_S4096x512_S4096x256_0_0
abbrev uR : Rect S4096x512 := Rect.unit (s := S4096x512) ![0, 0] S1024x256.size inb_S4096x512_S1024x256_0_0
abbrev tR : Rect S4096x512 := Rect.unit (s := S4096x512) ![0, 0] S1024x512.size inb_S4096x512_S1024x512_0_0
/-- The credit of a whole array of columns, of half of one, of a tile, of half a tile, of a maximum. -/
def crW : ℕ := (rM : Memref sig .tc .vmem S4096x512 .f32).view.dmaCredit
def crH : ℕ := ((View.whole cc0_scratch2).slice loR).dmaCredit
def crT : ℕ := ((View.whole cc0_stg2_0).slice tR).dmaCredit
def crU : ℕ := ((View.whole cc0_stg2_0).slice uR).dmaCredit
def crA : ℕ := ((aM.slice (Rect.unit (s := S4x8x128) ![0, 0, 0] S1x8x128.size (by decide)) (fun _ => rfl)).squeeze S8x128 squeezes_S1x8x128_S8x128).view.dmaCredit

def amt (q : DmaSem sig) : ℕ :=
  if q.val = 3 ∨ q.val = 5 ∨ q.val = 7 ∨ q.val = 9 then crW
  else if q.val = 4 ∨ q.val = 6 ∨ q.val = 8 ∨ q.val = 10 then crH
  else if q.val = 11 ∨ q.val = 12 ∨ q.val = 15 ∨ q.val = 16 then crT
  else if q.val = 13 ∨ q.val = 14 ∨ q.val = 17 ∨ q.val = 18 then crU
  else crA

theorem amt_pos (q : DmaSem sig) : 0 < amt q := by
  unfold amt crW crH crT crU crA
  split
  · exact sig.dmaCredit_pos _ _ _ _ _ (by decide)
  split
  · exact sig.dmaCredit_pos _ _ _ _ _ (by decide)
  split
  · exact sig.dmaCredit_pos _ _ _ _ _ (by decide)
  split
  · exact sig.dmaCredit_pos _ _ _ _ _ (by decide)
  · exact sig.dmaCredit_pos _ _ _ _ _ (by decide)

/-! ## What each duty hands over -/

/-- What the left neighbour's unit hands device `c`: the places on it that `c` writes to. -/
def barF (c : Dev nD) : sProp 𝕄 :=
  iprop(some_ (lf c) cc0_scratch1 Finset.univ ∗ some_ (lf c) cc0_scratch2 hiS ∗ some_ (lf c) cc0_stg2_0 (rowS c) ∗ some_ (lf c) cc0_scratch8 (slotS c))
/-- The same from the right neighbour. -/
def barT (c : Dev nD) : sProp 𝕄 :=
  iprop(some_ (rt c) cc0_scratch0 Finset.univ ∗ some_ (rt c) cc0_scratch2 loS ∗ some_ (rt c) cc0_stg2_0 (rowS c) ∗ some_ (rt c) cc0_scratch8 (slotS c))

/-- What the `n`-th DMA cell of device `c` hands over. -/
def dmaPay (c : Dev nD) (n : ℕ) : sProp 𝕄 :=
  match n with
  -- the columns lent to the sends
  | 3 => pts c cc0_stg1_0 Finset.univ qL (wv m ρ c)
  | 5 => pts c cc0_stg1_0 Finset.univ qRL (wv m ρ c)
  | 4 => pts c cc0_scratch0 loS qL (wv m ρ (lf c))
  | 6 => pts c cc0_scratch1 hiS qL (wv m ρ (rt c))
  -- the columns that land: the left neighbour's, the right neighbour's, the halves of the opposite device's
  | 7 => iprop(pts c cc0_scratch0 Finset.univ fullShare (wv m ρ (lf c))
      ∗ some_ (lf c) cc0_stg2_0 (rowS (rt c)) ∗ some_ (lf c) cc0_scratch8 (slotS (rt c)))
  | 9 => pts c cc0_scratch1 Finset.univ fullShare (wv m ρ (rt c))
  | 8 => iprop(pts c cc0_scratch2 loS fullShare (wv m ρ (fr c))
      ∗ some_ (fr c) cc0_stg2_0 (rowS c) ∗ some_ (fr c) cc0_scratch8 (slotS c))
  | 10 => pts c cc0_scratch2 hiS fullShare (wv m ρ (fr c))
  -- the tiles sent
  | 11 => some_ c cc0_scratch3 (tileS 0)
  | 12 => some_ c cc0_scratch3 (tileS 1)
  | 13 => some_ c cc0_scratch0 (rowLo 0)
  | 14 => some_ c cc0_scratch0 (rowHi 0)
  -- the tiles that land
  | 15 => pts c cc0_stg2_0 (rowS (lf c)) fullShare (outRaw m ρ c)
  | 16 => pts c cc0_stg2_0 (rowS (rt c)) fullShare (outRaw m ρ c)
  | 17 => pts c cc0_stg2_0 (rowLo (fr c)) fullShare (outRaw m ρ c)
  | 18 => pts c cc0_stg2_0 (rowHi (fr c)) fullShare (outRaw m ρ c)
  -- the maximum sent
  | 19 => pts c cc0_scratch8 (slotS c) qLR (amaxC m ρ)
  | 20 => pts c cc0_scratch8 (slotS c) qRL (amaxC m ρ)
  | 21 => pts c cc0_scratch8 (slotS c) qRR (amaxC m ρ)
  -- the maxima that land
  | 22 => pts c cc0_scratch8 (slotS 0) fullShare (amaxC m ρ)
  | 23 => pts c cc0_scratch8 (slotS 1) fullShare (amaxC m ρ)
  | 24 => pts c cc0_scratch8 (slotS 2) fullShare (amaxC m ρ)
  | 25 => pts c cc0_scratch8 (slotS 3) fullShare (amaxC m ρ)
  | _ => iprop(emp)

instance barF_storable (c : Dev nD) : BI.Storable (upEmb : UEmb _ 𝕄) (barF (F := F) c) := by unfold barF; infer_instance
instance barT_storable (c : Dev nD) : BI.Storable (upEmb : UEmb _ 𝕄) (barT (F := F) c) := by unfold barT; infer_instance
instance dmaPay_storable (c : Dev nD) (n : ℕ) : BI.Storable (upEmb : UEmb _ 𝕄) (dmaPay m ρ c n) := by
  unfold dmaPay; split <;> infer_instance

/-- The duties of device `c`'s cell `s` in the only round. -/
def dut (c : Dev nD) (s : SemLoc sig) : Finset Bool :=
  match s with
  | .reg _ => Finset.univ
  | .dma q => if 3 ≤ q.val ∧ q.val ≠ 22 + c.val then {false} else ∅

/-- The schedule of all the cells. -/
def plan : Rounds.Schedule (GSem nD τ sig) Bool 𝕄 where
  duties g r := if r = 0 ∧ g.1.2 = .tc then dut g.1.1 g.2 else ∅
  unitless _ := False
  amount g _ _ := match g.2 with
    | .reg _ => 1
    | .dma q => amt q
  payload g _ d := match g.2 with
    | .reg _ => if d then barT g.1.1 else barF g.1.1
    | .dma q => dmaPay m ρ g.1.1 q.val
  amount_pos g _ _ _ := by
    split
    · exact Nat.one_pos
    · exact amt_pos _

instance plan_payload_storable (g : GSem nD τ sig) (r : ℕ) (d : Bool) :
    BI.Storable (upEmb : UEmb _ 𝕄) ((plan m ρ).payload g r d) := by
  dsimp only [plan]
  split
  · split <;> infer_instance
  · infer_instance

theorem duties_bar (c : Dev nD) : (plan m ρ).duties (barCell c) 0 = Finset.univ := by
  dsimp only [plan]; rw [if_pos ⟨rfl, rfl⟩]; rfl
theorem duties_dma (c : Dev nD) (q : DmaSem sig) (h : 3 ≤ q.val ∧ q.val ≠ 22 + c.val) :
    (plan m ρ).duties (cell c q) 0 = {false} := by
  dsimp only [plan]; rw [if_pos ⟨rfl, rfl⟩]; exact if_pos h
theorem duties_own (c : Dev nD) : ∀ r, 0 ≤ r → (plan m ρ).duties (cell c (amx c)) r = ∅ := fun r _ => by
  dsimp only [plan, dut]
  split
  · exact if_neg fun h => h.2 rfl
  · rfl
theorem duties_later (g : GSem nD τ sig) : ∀ r, 0 + 1 ≤ r → (plan m ρ).duties g r = ∅ :=
  fun r hr => by dsimp only [plan]; exact if_neg fun h => by omega
theorem amount_bar (c : Dev nD) (d : Bool) : (plan m ρ).amount (barCell c) 0 d = 1 := rfl
theorem amount_dma (c : Dev nD) (q : DmaSem sig) (d : Bool) : (plan m ρ).amount (cell c q) 0 d = amt q := rfl
theorem payload_dma (c : Dev nD) (q : DmaSem sig) (d : Bool) : (plan m ρ).payload (cell c q) 0 d = dmaPay m ρ c q.val := rfl
theorem payload_barT (c : Dev nD) : (plan m ρ).payload (barCell c) 0 true = barT c := by dsimp only [plan]; exact if_pos rfl
theorem payload_barF (c : Dev nD) : (plan m ρ).payload (barCell c) 0 false = barF c := by
  dsimp only [plan]; exact if_neg Bool.false_ne_true
theorem expect_bar (c : Dev nD) : (plan m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma (c : Dev nD) (q : DmaSem sig) (h : 3 ≤ q.val ∧ q.val ≠ 22 + c.val) : (plan m ρ).expect (cell c q) 0 = amt q := by
  unfold Schedule.expect Schedule.amountOf; rw [duties_dma m ρ c q h, Finset.sum_singleton, amount_dma]
theorem rest_bar (c : Dev nD) : bigSep ((plan m ρ).duties (barCell c) 0 \ ∅) (fun d => (plan m ρ).payload (barCell c) 0 d) = iprop(barF c ∗ barT c) := by
  rw [Finset.sdiff_empty, duties_bar, bigSep_univ_eq_bigSepL [false, true] (by decide) (by decide), bigSepL_cons_cons, bigSepL_singleton,
    payload_barF, payload_barT]
  rfl
theorem rest_dma (c : Dev nD) (q : DmaSem sig) (h : 3 ≤ q.val ∧ q.val ≠ 22 + c.val) :
    bigSep ((plan m ρ).duties (cell c q) 0 \ ∅) (fun d => (plan m ρ).payload (cell c q) 0 d) = dmaPay m ρ c q.val := by
  rw [Finset.sdiff_empty, duties_dma m ρ c q h, bigSep_singleton, payload_dma]

/-- The maximum of another device `d` lands with its slot. -/
theorem dmaPay_amx (c d : Dev nD) : dmaPay m ρ c (amx d).val = pts c cc0_scratch8 (slotS d) fullShare (amaxC m ρ) := by
  fin_cases d <;> rfl

/-! ## Debts and levels -/

/-- The debt of a list of payments still to make, the next one first. -/
def Oat : List (GSem nD τ sig × ℕ) → CellTallies nD τ sig Unit
  | [] => 0
  | x :: l => Oat l + tallyAt x.1 () x.2

/-- What device `c` pays to other devices' cells, in program order. -/
def debts (c : Dev nD) : List (GSem nD τ sig × ℕ) :=
  [(barCell (lf c), 1), (barCell (rt c), 1),
   (cell (rt c) (dq 7), amt (dq 7)), (cell (lf c) (dq 9), amt (dq 9)),
   (cell (rt c) (dq 8), amt (dq 8)), (cell (lf c) (dq 10), amt (dq 10)),
   (cell (lf c) (dq 16), amt (dq 16)), (cell (rt c) (dq 15), amt (dq 15)),
   (cell (fr c) (dq 17), amt (dq 17)), (cell (fr c) (dq 18), amt (dq 18)),
   (cell (rt c) (amx c), amt (amx c)), (cell (fr c) (amx c), amt (amx c)), (cell (lf c) (amx c), amt (amx c))]

/-- What is left of them after the first `k`. -/
abbrev left (c : Dev nD) (k : ℕ) : List (GSem nD τ sig × ℕ) := (debts c).drop k

def L (g : GSem nD τ sig) : Finset Unit := if g.1.2 = .tc then {()} else ∅
/-- A cell's level: a wait on a cell is made while only cells of higher levels are owed. -/
def lvs (s : SemLoc sig) : ℕ :=
  match s with
  | .reg _ => 1
  | .dma q => if q.val < 7 then 0 else if q.val = 7 ∨ q.val = 9 then 2 else if q.val = 8 ∨ q.val = 10 then 3
      else if q.val < 15 then 0 else if q.val < 19 then 4 else if q.val < 22 then 0 else 4
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem Oat_pos : ∀ {l : List (GSem nD τ sig × ℕ)} {g : GSem nD τ sig} {u : Unit}, 0 < Oat l g u → ∃ x ∈ l, g = x.1
  | [], g, u, h => absurd h (Nat.lt_irrefl 0)
  | x :: l, g, u, h => by
    unfold Oat at h
    rw [Pi.add_apply, Finsupp.add_apply, tallyAt_apply] at h
    by_cases hg : g = x.1 ∧ u = ()
    · exact ⟨x, List.mem_cons_self, hg.1⟩
    · rw [if_neg hg, Nat.add_zero] at h
      obtain ⟨y, hy, e⟩ := Oat_pos h
      exact ⟨y, List.mem_cons_of_mem _ hy, e⟩

theorem debts_tc (c : Dev nD) : ∀ x ∈ debts c, x.1.1.2 = .tc := by
  unfold debts
  repeat' first | exact fun _ h => absurd h List.not_mem_nil | refine List.forall_mem_cons.mpr ⟨rfl, ?_⟩

/-- A wait is allowed when every debt left is at a higher level. -/
theorem mayWait (c : Dev nD) (sm : SemLoc sig) (k : ℕ) (h : ∀ x ∈ left c k, lvs sm < lvs x.1.2) :
    (levAts L lv : sProp 𝕄) ⊢ MayWait (c : Thread nD τ) sm () (Oat (left c k)) :=
  MayOwe.of_cut (L := L) (lev := lv) (lvs sm) (fun p hp => by rw [Finset.mem_singleton.mp hp, L_tc]; exact Finset.mem_singleton_self _)
    (fun g u hg => by
      obtain ⟨x, hx, rfl⟩ := Oat_pos hg
      unfold L; rw [if_pos (debts_tc c x (List.drop_subset _ _ hx))]; exact Finset.mem_singleton_self _)
    (fun p hp => by rw [Finset.mem_singleton.mp hp]; exact le_refl _)
    (fun g u hg => by
      obtain ⟨x, hx, rfl⟩ := Oat_pos hg
      exact h x hx)

theorem lv_stage (c : Dev nD) (q : DmaSem sig) (hq : q.val < 3) : ∀ x ∈ left c 0, lvs (.dma q) < lvs x.1.2 := by
  have h0 : lvs (.dma q) = 0 := if_pos (by omega)
  rw [h0]
  show ∀ x ∈ debts c, _
  unfold debts
  simp only [List.forall_mem_cons]
  have ha : 0 < lvs (.dma (amx c)) := by revert c; decide
  exact ⟨by decide, by decide, by decide, by decide, by decide, by decide, by decide, by decide, by decide, by decide, ha, ha, ha, fun _ h => absurd h List.not_mem_nil⟩
theorem lv_bar (c : Dev nD) : ∀ x ∈ left c 2, lvs (.reg barS) < lvs x.1.2 := by
  show ∀ x ∈ [_, _, _, _, _, _, _, _, _, _, _], _
  simp only [List.forall_mem_cons]
  have ha : lvs (.reg barS) < lvs (.dma (amx c)) := by revert c; decide
  exact ⟨by decide, by decide, by decide, by decide, by decide, by decide, by decide, by decide, ha, ha, ha, fun _ h => absurd h List.not_mem_nil⟩
theorem lv_w0 (c : Dev nD) : ∀ x ∈ left c 4, lvs (.dma (dq 7)) < lvs x.1.2 := by
  show ∀ x ∈ [_, _, _, _, _, _, _, _, _], _
  simp only [List.forall_mem_cons]
  have ha : lvs (.dma (dq 7)) < lvs (.dma (amx c)) := by revert c; decide
  exact ⟨by decide, by decide, by decide, by decide, by decide, by decide, ha, ha, ha, fun _ h => absurd h List.not_mem_nil⟩
theorem lv_w2 (c : Dev nD) : ∀ x ∈ left c 5, lvs (.dma (dq 9)) < lvs x.1.2 := by
  show ∀ x ∈ [_, _, _, _, _, _, _, _], _
  simp only [List.forall_mem_cons]
  have ha : lvs (.dma (dq 9)) < lvs (.dma (amx c)) := by revert c; decide
  exact ⟨by decide, by decide, by decide, by decide, by decide, ha, ha, ha, fun _ h => absurd h List.not_mem_nil⟩
theorem lv_8 (c : Dev nD) (q : DmaSem sig) (hq : lvs (.dma q) ≤ 3) : ∀ x ∈ left c 8, lvs (.dma q) < lvs x.1.2 := by
  show ∀ x ∈ [_, _, _, _, _], _
  simp only [List.forall_mem_cons]
  have ha : 3 < lvs (.dma (amx c)) := by revert c; decide
  have hb : 3 < lvs (.dma (dq 17)) := by decide
  have hc : 3 < lvs (.dma (dq 18)) := by decide
  exact ⟨by omega, by omega, by omega, by omega, by omega, fun _ h => absurd h List.not_mem_nil⟩
theorem lv_done (c : Dev nD) (s : SemLoc sig) : ∀ x ∈ left c 13, lvs s < lvs x.1.2 := fun x h => absurd h List.not_mem_nil

end Cert.Exchange

end
-- ==== Proof.Geometry.lean ====
/-
# The regions as the program names them

The rectangles that the loads, stores and transfers go through are the index sets of `Setup`, and an index inside one
sits where its offset says.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Rectangles of a 4096 × 512 array -/

theorem rect_all (inb) : (Rect.unit (s := S4096x512) ![0, 0] S4096x512.size inb).set = Finset.univ := by
  ext i
  have h0 : (i 0).val < 4096 := (i 0).isLt
  have h1 : (i 1).val < 512 := (i 1).isLt
  rw [Rect.mem_set_unit]
  refine ⟨fun _ => Finset.mem_univ _, fun _ a => ?_⟩
  match a with
  | ⟨0, _⟩ => exact ⟨Nat.zero_le _, by show (i 0).val < 0 + 4096; omega⟩
  | ⟨1, _⟩ => exact ⟨Nat.zero_le _, by show (i 1).val < 0 + 512; omega⟩

/-- Membership in a rectangle of a 4096 × 512 array, coordinate by coordinate. -/
theorem mem_rect (off size : Fin 2 → ℕ) (inb) (i : S4096x512.Idx) :
    i ∈ (Rect.unit (s := S4096x512) off size inb).set ↔
      (off 0 ≤ (i 0).val ∧ (i 0).val < off 0 + size 0) ∧ (off 1 ≤ (i 1).val ∧ (i 1).val < off 1 + size 1) := by
  rw [Rect.mem_set_unit]
  exact Fin.forall_fin_two

theorem rect_row (off : Fin 2 → ℕ) (d : Dev nD) (h : off = ![1024 * d.val, 0]) (inb) :
    (Rect.unit (s := S4096x512) off S1024x512.size inb).set = rowS d := by
  subst h
  ext i
  have h1 : (i 1).val < 512 := (i 1).isLt
  rw [mem_rect, rowS, Finset.mem_filter]
  show ((1024 * d.val ≤ (i 0).val ∧ (i 0).val < 1024 * d.val + 1024) ∧ (0 ≤ (i 1).val ∧ (i 1).val < 0 + 512)) ↔ _
  have := Finset.mem_univ i
  constructor
  · intro h; exact ⟨this, by omega⟩
  · intro h; have := h.2; omega

theorem rect_rowLo (off : Fin 2 → ℕ) (d : Dev nD) (h : off = ![1024 * d.val, 0]) (inb) :
    (Rect.unit (s := S4096x512) off S1024x256.size inb).set = rowLo d := by
  subst h
  ext i
  rw [mem_rect, rowLo, Finset.mem_filter]
  show ((1024 * d.val ≤ (i 0).val ∧ (i 0).val < 1024 * d.val + 1024) ∧ (0 ≤ (i 1).val ∧ (i 1).val < 0 + 256)) ↔ _
  have := Finset.mem_univ i
  constructor
  · intro h; exact ⟨this, by omega⟩
  · intro h; have := h.2; omega

theorem rect_rowHi (off : Fin 2 → ℕ) (d : Dev nD) (h : off = ![1024 * d.val, 256]) (inb) :
    (Rect.unit (s := S4096x512) off S1024x256.size inb).set = rowHi d := by
  subst h
  ext i
  have h1 : (i 1).val < 512 := (i 1).isLt
  rw [mem_rect, rowHi, Finset.mem_filter]
  show ((1024 * d.val ≤ (i 0).val ∧ (i 0).val < 1024 * d.val + 1024) ∧ (256 ≤ (i 1).val ∧ (i 1).val < 256 + 256)) ↔ _
  have := Finset.mem_univ i
  constructor
  · intro h; exact ⟨this, by omega⟩
  · intro h; have := h.2; omega

theorem rect_lo (inb) : (Rect.unit (s := S4096x512) ![0, 0] S4096x256.size inb).set = loS := by
  ext i
  have h0 : (i 0).val < 4096 := (i 0).isLt
  rw [mem_rect, loS, Finset.mem_filter]
  show ((0 ≤ (i 0).val ∧ (i 0).val < 0 + 4096) ∧ (0 ≤ (i 1).val ∧ (i 1).val < 0 + 256)) ↔ _
  have := Finset.mem_univ i
  constructor
  · intro h; exact ⟨this, by omega⟩
  · intro h; have := h.2; omega

theorem rect_hi (inb) : (Rect.unit (s := S4096x512) ![0, 256] S4096x256.size inb).set = hiS := by
  ext i
  have h0 : (i 0).val < 4096 := (i 0).isLt
  have h1 : (i 1).val < 512 := (i 1).isLt
  rw [mem_rect, hiS, Finset.mem_filter]
  show ((0 ≤ (i 0).val ∧ (i 0).val < 0 + 4096) ∧ (256 ≤ (i 1).val ∧ (i 1).val < 256 + 256)) ↔ _
  have := Finset.mem_univ i
  constructor
  · intro h; exact ⟨this, by omega⟩
  · intro h; have := h.2; omega

/-! ## Slots -/

theorem rect_slot (off : Fin 3 → ℕ) (d : Dev nD) (h : off = ![d.val, 0, 0]) (inb) :
    (Rect.unit (s := S4x8x128) off S1x8x128.size inb).set = slotS d := by
  subst h
  ext i
  have h1 : (i 1).val < 8 := (i 1).isLt
  have h2 : (i 2).val < 128 := (i 2).isLt
  rw [Rect.mem_set_unit, slotS, Finset.mem_filter]
  have := Finset.mem_univ i
  constructor
  · intro h
    have h0 : d.val ≤ (i 0).val ∧ (i 0).val < d.val + 1 := h 0
    exact ⟨this, by omega⟩
  · intro h a
    have h := h.2
    match a with
    | ⟨0, _⟩ => show d.val ≤ (i 0).val ∧ (i 0).val < d.val + 1; omega
    | ⟨1, _⟩ => show 0 ≤ (i 1).val ∧ (i 1).val < 0 + 8; omega
    | ⟨2, _⟩ => show 0 ≤ (i 2).val ∧ (i 2).val < 0 + 128; omega

theorem rect_tile (off : Fin 3 → ℕ) (j : Fin 2) (h : off = ![j.val, 0, 0]) (inb) :
    (Rect.unit (s := S2x1024x512) off S1x1024x512.size inb).set = tileS j := by
  subst h
  ext i
  have h1 : (i 1).val < 1024 := (i 1).isLt
  have h2 : (i 2).val < 512 := (i 2).isLt
  rw [Rect.mem_set_unit, tileS, Finset.mem_filter]
  have := Finset.mem_univ i
  constructor
  · intro h
    have h0 : j.val ≤ (i 0).val ∧ (i 0).val < j.val + 1 := h 0
    exact ⟨this, by omega⟩
  · intro h a
    have h := h.2
    match a with
    | ⟨0, _⟩ => show j.val ≤ (i 0).val ∧ (i 0).val < j.val + 1; omega
    | ⟨1, _⟩ => show 0 ≤ (i 1).val ∧ (i 1).val < 0 + 1024; omega
    | ⟨2, _⟩ => show 0 ≤ (i 2).val ∧ (i 2).val < 0 + 512; omega

/-! ## Where an index of a rectangle sits -/

theorem emb_row (off : Fin 2 → ℕ) (d : Dev nD) (h : off = ![1024 * d.val, 0]) (inb) (x : S1024x512.Idx) :
    (Rect.unit (s := S4096x512) off S1024x512.size inb).emb x = rin d x := by
  subst h
  funext a
  refine Fin.ext ?_
  rw [ValueKit.rect_emb_unit_val]
  match a with
  | ⟨0, _⟩ => rfl
  | ⟨1, _⟩ => show 0 + (x 1).val = (x 1).val; omega

/-- The place of a place in the left (`k = 0`) or right (`k = 256`) half of a tile. -/
def half (k : ℕ) (hk : k ≤ 256) (x : S1024x256.Idx) : S1024x512.Idx :=
  ix2 (n0 := 1024) (n1 := 512) (x 0) ⟨k + (x 1).val, by have h : (x 1).val < 256 := (x 1).isLt; omega⟩

theorem emb_half (off : Fin 2 → ℕ) (d : Dev nD) (k : ℕ) (hk : k ≤ 256) (h : off = ![1024 * d.val, k]) (inb) (x : S1024x256.Idx) :
    (Rect.unit (s := S4096x512) off S1024x256.size inb).emb x = rin d (half k hk x) := by
  subst h
  funext a
  refine Fin.ext ?_
  rw [ValueKit.rect_emb_unit_val]
  match a with
  | ⟨0, _⟩ => rfl
  | ⟨1, _⟩ => rfl

/-! ## What a landing leaves

A region written with what the source reads holds, on that region, any contents that read back the same there. -/

theorem landed {sp sp' : Space} {s : Shape} {e : EltTy} {c e' : Dev nD} (src : Memref sig .tc sp s e) (dst : Memref sig .tc sp' s e)
    (fs : Buf (Elt F) (src.view.loc (c : Thread nD τ))) (fd G : Buf (Elt F) (dst.view.loc (e' : Thread nD τ)))
    (hG : dst.view.read (Elt F) G = src.view.read (Elt F) fs) :
    ((dst.view.loc (e' : Thread nD τ) ↦[dst.view.set]{fullShare} (dst.view.write (Elt F) fd (src.view.read (Elt F) fs) Finset.univ)) : sProp 𝕄)
      = (dst.view.loc (e' : Thread nD τ) ↦[dst.view.set]{fullShare} G) := by
  refine pointsTo_congr fun i hi => ?_
  obtain ⟨x, rfl⟩ := View.exists_emb_of_mem_set dst.view hi
  rw [View.write_emb_of_mem _ _ (Finset.mem_univ x), ← hG, View.read_apply]
  simp

/-- The outcome on device `c`, read through block `d` of its rows: the tile of `d`'s rows of `x`. -/
theorem outRaw_rin (c d : Dev nD) (x : S1024x512.Idx) : outRaw m ρ c (rin d x) = k0_pay1 (wv m ρ c) (xv m ρ d) x := by
  unfold outRaw; rw [rdev_rin, ridx_rin]

end Cert.Exchange

end
-- ==== Proof.Steps.lean ====
/-
# The rules of the protocol, one for each kind of step

A signal, the wait on the barrier, a transfer and the wait for one, each stated with the protocol's own resources: `ctx`
(every cell's invariant, known to all), `own c k` (device `c` has made its first `k` payments), tokens and credits.
-/
module

public import proofs.«01_k».proof.Proof.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The cells and what every device knows of them -/

/-- The cells of a device, by number: the barrier, then DMA semaphores 3 to 25. -/
def csem (j : Fin 24) : SemLoc sig := if j.val = 0 then .reg barS else .dma ⟨j.val + 2, by have := j.isLt; show _ < 26; omega⟩
abbrev kcell (ck : Dev nD × Fin 24) : GSem nD τ sig := ((ck.1 : Thread nD τ), csem ck.2)

/-- Every cell has its invariant and is past its start, and the levels are as chosen. -/
def ctx : sProp 𝕄 :=
  iprop((bigSep Finset.univ fun ck : Dev nD × Fin 24 => iprop(∃ κ : ℕ, cellInv ER (plan m ρ) κ (kcell ck)))
    ∗ (bigSep Finset.univ fun ck : Dev nD × Fin 24 => reached ER (kcell ck) 0) ∗ levAts L lv)

instance ctx_persistent : BI.Persistent (ctx m ρ) := by unfold ctx; infer_instance

theorem ctx_lev : ctx m ρ ⊢ (levAts L lv : sProp 𝕄) := by
  unfold ctx; iintro ⟨-, -, H⟩; iexact H

theorem ctx_at (ck : Dev nD × Fin 24) :
    ctx m ρ ⊢ iprop((∃ κ : ℕ, cellInv ER (plan m ρ) κ (kcell ck)) ∗ reached ER (kcell ck) 0) := by
  unfold ctx
  iintro ⟨#HI, #HR, -⟩
  isplitr
  · iapply (show (bigSep Finset.univ fun ck : Dev nD × Fin 24 => iprop(∃ κ : ℕ, cellInv ER (plan m ρ) κ (kcell ck)) : sProp 𝕄) ⊢ iprop(∃ κ : ℕ, cellInv ER (plan m ρ) κ (kcell ck)) from bigSep_elim (Finset.mem_univ ck)); iexact HI
  · iapply (show (bigSep Finset.univ fun ck : Dev nD × Fin 24 => reached ER (kcell ck) 0 : sProp 𝕄) ⊢ reached ER (kcell ck) 0 from bigSep_elim (Finset.mem_univ ck)); iexact HR

theorem ctx_bar (c : Dev nD) :
    ctx m ρ ⊢ iprop((∃ κ : ℕ, cellInv ER (plan m ρ) κ (barCell c)) ∗ reached ER (barCell c) 0) :=
  ctx_at m ρ (c, 0)

theorem kcell_dma (c : Dev nD) (q : DmaSem sig) (h : 3 ≤ q.val) (h' : q.val - 2 < 24) : kcell (c, ⟨q.val - 2, h'⟩) = cell c q := by
  show ((c : Thread nD τ), csem _) = _
  unfold csem
  rw [if_neg (by show ¬ (q.val - 2 = 0); omega)]
  refine congrArg (fun q : DmaSem sig => ((c : Thread nD τ), SemLoc.dma q)) (Fin.ext ?_)
  show q.val - 2 + 2 = q.val
  omega

theorem ctx_dma (c : Dev nD) (q : DmaSem sig) (h : 3 ≤ q.val) :
    ctx m ρ ⊢ iprop((∃ κ : ℕ, cellInv ER (plan m ρ) κ (cell c q)) ∗ reached ER (cell c q) 0) := by
  have h26 : q.val < 26 := q.isLt
  rw [← kcell_dma c q h (by omega)]
  exact ctx_at m ρ _

/-! ## What a device holds -/

/-- Device `c` has made its first `k` payments. -/
def own (c : Dev nD) (k : ℕ) : sProp 𝕄 := iprop(∃ W, owes (c : Thread nD τ) (Oat (left c k)) W)
/-- A cell of device `c` at its start, and after its one collection. -/
def fresh (c : Dev nD) (q : DmaSem sig) : sProp 𝕄 := atPos ER (cell c q) 0 ∅ 0
def spent (c : Dev nD) (q : DmaSem sig) : sProp 𝕄 := atPos ER (cell c q) (0 + 1) ∅ 0
/-- What the wait on cell `q` takes: the credit for it and the cell at its start. -/
def canWait (c : Dev nD) (q : DmaSem sig) : sProp 𝕄 := iprop(cred (tallyAt (cell c q) () (amt q)) ∗ fresh c q)
/-- The right to make the one payment into cell `q` of device `c`. -/
def tok (c : Dev nD) (q : DmaSem sig) : sProp 𝕄 := dutyTok ER (cell c q) 0 false
/-- What a send takes on the sender's side. -/
def canSend (c : Dev nD) (q : DmaSem sig) : sProp 𝕄 := iprop(tok c q ∗ fresh c q)

/-! ## The rules -/

/-- A signal to the barrier of `e`: its duty `d`, with what that hands over. -/
theorem step_signal (c e n : Dev nD) (hn : n = e) (d : Bool) (k : ℕ) (hl : left c k = (barCell e, 1) :: left c (k + 1))
    {α : Type} {Q : α → sProp 𝕄} {kk : PUnit → Prog (TpuEff nD τ sig (Elt F) Λ₀ .tc) α} :
    iprop(ctx m ρ ∗ own c k ∗ dutyTok ER (barCell e) 0 d ∗ (if d then barT e else barF e))
      ⊢ iprop((own c (k + 1) -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal ((n : Thread nD τ)) barS ((1#32).toInt)) kk) Q) := by
  subst hn
  unfold own
  rw [hl]
  iintro ⟨#Hc, ⟨%W, HO⟩, Ht, Hp⟩ Hk
  ihave H := (ctx_bar m ρ n) $$ Hc
  icases H with ⟨⟨%κ, #HI⟩, #HR⟩
  iapply (Rounds.wp_signal 𝒱₀ ER (plan m ρ) (c : Thread nD τ) none (dst := (n : Thread nD τ)) (κ := κ)
      (d := d) (by rw [duties_bar]; exact Finset.mem_univ _) ((amount_bar m ρ n d).trans (by decide)) () (Oat (left c (k + 1))) rfl)
    $$ [HO Ht Hp]
  · isplitr; · iexact HI
    isplitl [HO]; · iexact HO
    isplitl [Ht]; · iexact Ht
    isplitl [Hp]; · rw [show (plan m ρ).payload (barCell n) 0 d = (if d then barT n else barF n) from by cases d <;> rfl]; iexact Hp
    iexact HR
  iintro HO
  iapply Hk
  iexists W
  iexact HO

/-- The wait for both neighbours on the own barrier. -/
theorem step_barrier (c : Dev nD)
    {α : Type} {Q : α → sProp 𝕄} {kk : PUnit → Prog (TpuEff nD τ sig (Elt F) Λ₀ .tc) α} :
    iprop(ctx m ρ ∗ own c 2 ∗ cred (tallyAt (barCell c) () 2) ∗ atPos ER (barCell c) 0 ∅ 0)
      ⊢ iprop(((own c 2 ∗ atPos ER (barCell c) (0 + 1) ∅ 0 ∗ barF c ∗ barT c) -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS ((2#32).toInt)) kk) Q) := by
  unfold own
  iintro ⟨#Hc, ⟨%W, HO⟩, Hcr, Hat⟩ Hk
  ihave H := (ctx_bar m ρ c) $$ Hc
  icases H with ⟨⟨%κ, #HI⟩, #HR⟩
  iapply (Rounds.wp_wait_rest_token 𝒱₀ ER (plan m ρ) (c : Thread nD τ) none (κ := κ)
      (wpE_semWait_eq 𝒱₀ (c : Thread nD τ) none Set.univ) (Set.mem_univ _) () (O := Oat (left c 2)) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait c (.reg barS) 2 (lv_bar c)); iapply (ctx_lev m ρ); iexact Hc
    iexact Hat
  iintro ⟨HO, Hat, -, Hpay⟩
  ihave Hp := (Entails.of_eq (rest_bar m ρ c)) $$ Hpay
  icases Hp with ⟨HF, HT⟩
  iapply Hk
  isplitl [HO]; · iexists _; iexact HO
  isplitl [Hat]; · iexact Hat
  isplitl [HF] <;> iassumption

/-- The wait on a DMA cell: what its one duty hands over. -/
theorem step_wait (c : Dev nD) (k : ℕ) (q : DmaSem sig) (hq : 3 ≤ q.val ∧ q.val ≠ 22 + c.val) {sem : DmaSem sig} (hs : sem = q)
    {sp sp' : Space} {s s' : Shape} {e e' : EltTy} {src : Memref sig .tc sp' s' e'} {dst : Memref sig .tc sp s e}
    {hsrc : src.view.WordExact} {hdst : dst.view.WordExact} (hN : dst.view.dmaCredit = amt q)
    (hlv : ∀ x ∈ left c k, lvs (.dma q) < lvs x.1.2)
    {α : Type} {Q : α → sProp 𝕄} {kk : PUnit → Prog (TpuEff nD τ sig (Elt F) Λ₀ .tc) α} :
    iprop(ctx m ρ ∗ own c k ∗ canWait c q)
      ⊢ iprop(((own c k ∗ spent c q ∗ dmaPay m ρ c q.val) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hs
  unfold own canWait fresh spent
  rw [← hN]
  iintro ⟨#Hc, ⟨%W, HO⟩, Hcr, Hat⟩ Hk
  ihave H := (ctx_dma m ρ c sem hq.1) $$ Hc
  icases H with ⟨⟨%κ, #HI⟩, #HR⟩
  iapply (Rounds.wp_wait_rest_token 𝒱₀ ER (plan m ρ) (c : Thread nD τ) none (κ := κ)
      (wpE_waitDma2_eq 𝒱₀ (c : Thread nD τ) none Set.univ) (Set.mem_univ _) () (O := Oat (left c k)) (W := W) (R := 0) (m := 0) (T := ∅)
      (by rw [Nat.zero_add, expect_dma m ρ c sem hq, hN])) $$ [Hcr HO Hat]
  · isplitr; · iexact HI
    isplitl [Hcr]; · iexact Hcr
    isplitl [HO]; · iexact HO
    isplitr
    · iapply (mayWait c (.dma sem) k hlv); iapply (ctx_lev m ρ); iexact Hc
    iexact Hat
  iintro ⟨HO, Hat, -, Hpay⟩
  ihave Hp := (Entails.of_eq (rest_dma m ρ c sem hq)) $$ Hpay
  iapply Hk
  isplitl [HO]; · iexists _; iexact HO
  isplitl [Hat] <;> iassumption

/-- A transfer to device `e`: what it reads goes to the sending cell's duty, what lands to the receiving cell's. -/
theorem step_send (c e n : Dev nD) (hn : n = e) (k : ℕ) (qs qr : DmaSem sig)
    (hqs : 3 ≤ qs.val ∧ qs.val ≠ 22 + c.val) (hqr : 3 ≤ qr.val ∧ qr.val ≠ 22 + e.val) (hamt : amt qs = amt qr)
    (hl : left c k = (cell e qr, amt qr) :: left c (k + 1)) {sS sR : DmaSem sig} (hS : sS = qs) (hR : sR = qr)
    {sp sp' : Space} {s : Shape} {ty : EltTy} {src : Memref sig .tc sp s ty} {dst : Memref sig .tc sp' s ty}
    {hsc : (show Memref sig (Dev.tc n : Thread nD τ).2.kind sp' s ty from dst).view.ref.isScScratch = false}
    {hsrc : src.view.WordExact} {hdst : dst.view.WordExact}
    {hsem : DmaTarget.Typed sp (.dma sR) (.remote (Dev.tc n : Thread nD τ) dst (.dma sS) hsc)}
    (hN : dst.view.dmaCredit = amt qr)
    {Ss : Finset (Idx (src.view.loc (c : Thread nD τ)))} {Sd : Finset (Idx (dst.view.loc (e : Thread nD τ)))}
    (hSs : src.view.set = Ss) (hSd : dst.view.set = Sd) {q : PosShare TreeShare}
    {fs : Buf (Elt F) (src.view.loc (c : Thread nD τ))} {fd : Buf (Elt F) (dst.view.loc (e : Thread nD τ))}
    (G : Buf (Elt F) (dst.view.loc (e : Thread nD τ))) (Fx : sProp 𝕄)
    (hG : dst.view.read (Elt F) G = src.view.read (Elt F) fs)
    (hp₁ : ((src.view.loc (c : Thread nD τ) ↦[Ss]{q} fs) : sProp 𝕄) ⊢ dmaPay m ρ c qs.val)
    (hp₂ : iprop((dst.view.loc (e : Thread nD τ) ↦[Sd]{fullShare} G) ∗ Fx) ⊢ dmaPay m ρ e qr.val)
    {α : Type} {Q : α → sProp 𝕄} {kk : PUnit → Prog (TpuEff nD τ sig (Elt F) Λ₀ .tc) α} :
    iprop(ctx m ρ ∗ own c k ∗ canSend c qs ∗ tok e qr
        ∗ (src.view.loc (c : Thread nD τ) ↦[Ss]{q} fs) ∗ (dst.view.loc (e : Thread nD τ) ↦[Sd]{fullShare} fd) ∗ Fx)
      ⊢ iprop(((own c (k + 1) ∗ canWait c qs) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) kk) Q) := by
  subst hn hS hR
  subst hSs hSd
  unfold own canWait canSend fresh tok
  rw [hl]
  iintro ⟨#Hc, ⟨%W, HO⟩, ⟨Hts, Hat⟩, Htr, Hsrc, Hdst, HF⟩ Hk
  ihave H := (ctx_dma m ρ c sS hqs.1) $$ Hc
  icases H with ⟨⟨%κ₁, #HI₁⟩, #HR₁⟩
  ihave H := (ctx_dma m ρ n sR hqr.1) $$ Hc
  icases H with ⟨⟨%κ₂, #HI₂⟩, #HR₂⟩
  iapply (Rounds.wp_send_pointsTo_with 𝒱₀ ER (plan m ρ) (c : Thread nD τ) none (κ₁ := κ₁) (κ₂ := κ₂) (F := Fx)
    (r₁ := 0) (r₂ := 0) (d₁ := false) (d₂ := false) (fs := fs) (fd := fd)
    (by rw [duties_dma m ρ c sS hqs]; exact Finset.mem_singleton_self _) (by rw [duties_dma m ρ n sR hqr]; exact Finset.mem_singleton_self _)
    () () (amt sR) (show dst.view.amount (.dma sR) = amt sR from hN) ((amount_dma m ρ c sS false).trans hamt) (amount_dma m ρ n sR false) (Oat (left c (k + 1))) rfl (W := W)
    hp₁ ((sep_mono_left (Entails.of_eq (landed src dst fs fd G hG))).trans hp₂)) $$ [HO Hts Htr Hsrc Hdst HF]
  · isplitr; · iexact HI₁
    isplitr; · iexact HI₂
    isplitl [Hsrc]; · iexact Hsrc
    isplitl [Hdst HF]
    · isplitl [Hdst] <;> iassumption
    isplitl [HO]; · iexact HO
    isplitl [Hts]; · iexact Hts
    isplitr; · iexact HR₁
    isplitl [Htr]; · iexact Htr
    iexact HR₂
  iintro ⟨Hcr, HO⟩
  iapply Hk
  isplitl [HO]; · iexists W; iexact HO
  isplitl [Hcr]
  · rw [hamt]; iexact Hcr
  iexact Hat

/-- A cell whose duties are all collected closes: its counter is at zero. -/
theorem close_dma (c : Dev nD) (q : DmaSem sig) (h : 3 ≤ q.val) :
    iprop(ctx m ρ ∗ spent c q) ⊢ |={Set.univ}=> semVal (cell c q) 0 := by
  unfold spent
  iintro ⟨#Hc, Hat⟩
  ihave H := (ctx_dma m ρ c q h) $$ Hc
  icases H with ⟨⟨%κ, #HI⟩, -⟩
  iapply (Rounds.cell_close ER (plan m ρ) (Set.mem_univ κ) (fun h => h) (R := 0 + 1) (duties_later m ρ (cell c q)))
  isplitr; · iexact HI
  iexact Hat

/-- The cell that collects nothing closes too. -/
theorem close_own (c : Dev nD) : iprop(ctx m ρ ∗ fresh c (amx c)) ⊢ |={Set.univ}=> semVal (cell c (amx c)) 0 := by
  unfold fresh
  iintro ⟨#Hc, Hat⟩
  ihave H := (ctx_dma m ρ c (amx c) (by show 3 ≤ 22 + c.val; omega)) $$ Hc
  icases H with ⟨⟨%κ, #HI⟩, -⟩
  iapply (Rounds.cell_close ER (plan m ρ) (Set.mem_univ κ) (fun h => h) (R := 0) (duties_own m ρ c))
  isplitr; · iexact HI
  iexact Hat

theorem close_bar (c : Dev nD) : iprop(ctx m ρ ∗ atPos ER (barCell c) (0 + 1) ∅ 0) ⊢ |={Set.univ}=> semVal (barCell c) 0 := by
  iintro ⟨#Hc, Hat⟩
  ihave H := (ctx_bar m ρ c) $$ Hc
  icases H with ⟨⟨%κ, #HI⟩, -⟩
  iapply (Rounds.cell_close ER (plan m ρ) (Set.mem_univ κ) (fun h => h) (R := 0 + 1) (duties_later m ρ (barCell c)))
  isplitr; · iexact HI
  iexact Hat

end Cert.Exchange

end
-- ==== Proof.Regions.lean ====
/-
# Cutting buffers into regions and putting them together

A buffer held on a region is the same buffer held on two regions that make it up, at the same contents; held at shares, it
is held at the two halves of the share.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- `S` is made of `I` and `J`, which share nothing. -/
def Cut {ι : Type} (S I J : Finset ι) : Prop := (∀ i, i ∈ S ↔ i ∈ I ∨ i ∈ J) ∧ ∀ i ∈ I, i ∉ J

section Generic

variable {ℓ : Loc nD τ sig} {S I J : Finset (Idx ℓ)} {q : PosShare TreeShare} {f : Buf (Elt F) ℓ}

theorem Cut.union (h : Cut S I J) : S = I ∪ J := by ext i; rw [Finset.mem_union]; exact h.1 i
theorem Cut.disjoint (h : Cut S I J) : Disjoint I J := Finset.disjoint_left.mpr fun {i} => h.2 i

theorem Cut.split (h : Cut S I J) : (ℓ ↦[S]{q} f : sProp 𝕄) ⊢ iprop((ℓ ↦[I]{q} f) ∗ ℓ ↦[J]{q} f) := by
  rw [h.union]; exact (pointsTo_union h.disjoint).1
theorem Cut.join (h : Cut S I J) : iprop((ℓ ↦[I]{q} f) ∗ ℓ ↦[J]{q} f) ⊢ (ℓ ↦[S]{q} f : sProp 𝕄) := by
  rw [h.union]; exact (pointsTo_union h.disjoint).2
theorem Cut.splitSome (h : Cut S I J) :
    iprop(∃ f : Buf (Elt F) ℓ, ℓ ↦[S]{fullShare} f) ⊢ (iprop((∃ f : Buf (Elt F) ℓ, ℓ ↦[I]{fullShare} f) ∗ ∃ f : Buf (Elt F) ℓ, ℓ ↦[J]{fullShare} f) : sProp 𝕄) := by
  iintro ⟨%f, H⟩
  ihave H := h.split $$ H
  icases H with ⟨H1, H2⟩
  isplitl [H1] <;> (iexists f; iassumption)
theorem Cut.joinSome (h : Cut S I J) :
    (iprop((∃ f : Buf (Elt F) ℓ, ℓ ↦[I]{fullShare} f) ∗ ∃ f : Buf (Elt F) ℓ, ℓ ↦[J]{fullShare} f) : sProp 𝕄) ⊢ iprop(∃ f : Buf (Elt F) ℓ, ℓ ↦[S]{fullShare} f) := by
  iintro ⟨⟨%f, H1⟩, ⟨%g, H2⟩⟩
  rw [h.union]
  iexists (J.piecewise g f)
  iapply (pointsTo_join h.disjoint)
  isplitl [H1] <;> iassumption

theorem share_split : (ℓ ↦[S]{q} f : sProp 𝕄) ⊢ iprop((ℓ ↦[S]{q.left} f) ∗ ℓ ↦[S]{q.right} f) :=
  (pointsTo_share (PosShare.mem_left_op_right q)).1
theorem share_join : iprop((ℓ ↦[S]{q.left} f) ∗ ℓ ↦[S]{q.right} f) ⊢ (ℓ ↦[S]{q} f : sProp 𝕄) :=
  (pointsTo_share (PosShare.mem_left_op_right q)).2

end Generic

/-! ## The cuts -/

theorem cut_half : Cut (Finset.univ : Finset S4096x512.Idx) loS hiS := by
  constructor
  · intro i
    rw [loS, hiS, Finset.mem_filter, Finset.mem_filter]
    have := Finset.mem_univ i
    by_cases h : (i 1).val < 256
    · exact ⟨fun _ => Or.inl ⟨this, h⟩, fun _ => this⟩
    · exact ⟨fun _ => Or.inr ⟨this, by omega⟩, fun _ => this⟩
  · intro i h h'
    rw [loS, Finset.mem_filter] at h
    rw [hiS, Finset.mem_filter] at h'
    have h1 := h.2
    have h2 := h'.2
    omega

theorem cut_row (d : Dev nD) : Cut (rowS d) (rowLo d) (rowHi d) := by
  constructor
  · intro i
    rw [rowS, rowLo, rowHi, Finset.mem_filter, Finset.mem_filter, Finset.mem_filter]
    have := Finset.mem_univ i
    by_cases h : (i 1).val < 256
    · exact ⟨fun h' => Or.inl ⟨this, h'.2, h⟩, fun h' => ⟨this, by rcases h' with h' | h'; exact h'.2.1; exact h'.2.1⟩⟩
    · exact ⟨fun h' => Or.inr ⟨this, h'.2, by omega⟩, fun h' => ⟨this, by rcases h' with h' | h'; exact h'.2.1; exact h'.2.1⟩⟩
  · intro i h h'
    rw [rowLo, Finset.mem_filter] at h
    rw [rowHi, Finset.mem_filter] at h'
    have h1 := h.2
    have h2 := h'.2
    omega

theorem cut_tile : Cut (Finset.univ : Finset S2x1024x512.Idx) (tileS 0) (tileS 1) := by
  constructor
  · intro i
    rw [tileS, tileS, Finset.mem_filter, Finset.mem_filter]
    have := Finset.mem_univ i
    have h2 : (i 0).val < 2 := (i 0).isLt
    by_cases h : (i 0).val = 0
    · exact ⟨fun _ => Or.inl ⟨this, h⟩, fun _ => this⟩
    · exact ⟨fun _ => Or.inr ⟨this, by show (i 0).val = 1; omega⟩, fun _ => this⟩
  · intro i h h'
    rw [tileS, Finset.mem_filter] at h h'
    have h1 : (i 0).val = 0 := h.2
    have h2 : (i 0).val = 1 := h'.2
    omega

theorem cut_rest {ι : Type} [Fintype ι] [DecidableEq ι] (I : Finset ι) : Cut Finset.univ I (Finset.univ \ I) := by
  constructor
  · intro i
    rw [Finset.mem_sdiff]
    have := Finset.mem_univ i
    by_cases h : i ∈ I
    · exact ⟨fun _ => Or.inl h, fun _ => this⟩
    · exact ⟨fun _ => Or.inr ⟨this, h⟩, fun _ => this⟩
  · intro i h h'
    exact (Finset.mem_sdiff.mp h').2 h

/-- Four different devices are all of them. -/
theorem four {a b c d : Dev nD} (h : a ≠ b ∧ a ≠ c ∧ a ≠ d ∧ b ≠ c ∧ b ≠ d ∧ c ≠ d) (e : Dev nD) : e = a ∨ e = b ∨ e = c ∨ e = d := by
  revert a b c d e; decide

/-- The four devices seen from `c`. -/
theorem ring_ne (c : Dev nD) : c ≠ lf c ∧ c ≠ rt c ∧ c ≠ fr c ∧ lf c ≠ rt c ∧ lf c ≠ fr c ∧ rt c ≠ fr c := by revert c; decide

/-- A whole array in four pieces, by the device that each index belongs to. -/
def Quarter {ι : Type} [Fintype ι] (P : Dev nD → Finset ι) : Prop := ∀ i, ∃ d, ∀ e, i ∈ P e ↔ e = d

theorem quarter_rows : Quarter rowS := fun i => ⟨rdev i, fun e => by
  rw [rowS, Finset.mem_filter]
  exact ⟨fun h => Fin.ext h.2.symm, fun h => ⟨Finset.mem_univ i, by rw [h]; rfl⟩⟩⟩
theorem quarter_slots : Quarter slotS := fun i => ⟨(⟨(i 0).val, (i 0).isLt⟩ : Fin 4), fun e => by
  rw [slotS, Finset.mem_filter]
  exact ⟨fun h => Fin.ext h.2.symm, fun h => ⟨Finset.mem_univ i, by rw [h]⟩⟩⟩

section Four

variable {ℓ : Loc nD τ sig} {P : Dev nD → Finset (Idx ℓ)} (hP : Quarter P) {q : PosShare TreeShare} {f : Buf (Elt F) ℓ}
  {a b c d : Dev nD} (h : a ≠ b ∧ a ≠ c ∧ a ≠ d ∧ b ≠ c ∧ b ≠ d ∧ c ≠ d)

include hP h

theorem quarter_cuts : Cut Finset.univ (P a) (P b ∪ (P c ∪ P d)) ∧ Cut (P b ∪ (P c ∪ P d)) (P b) (P c ∪ P d) ∧ Cut (P c ∪ P d) (P c) (P d) := by
  obtain ⟨h1, h2, h3, h4, h5, h6⟩ := h
  refine ⟨⟨fun i => ?_, fun i hi => ?_⟩, ⟨fun i => ?_, fun i hi => ?_⟩, ⟨fun i => ?_, fun i hi => ?_⟩⟩
  · obtain ⟨e, he⟩ := hP i
    simp only [Finset.mem_univ, Finset.mem_union, he, true_iff]
    rcases four ⟨h1, h2, h3, h4, h5, h6⟩ e with r | r | r | r <;> simp [r]
  · obtain ⟨e, he⟩ := hP i
    simp only [Finset.mem_union, he] at hi ⊢
    subst hi
    rintro (r | r | r)
    · exact h1 r.symm
    · exact h2 r.symm
    · exact h3 r.symm
  · simp only [Finset.mem_union]
  · obtain ⟨e, he⟩ := hP i
    simp only [Finset.mem_union, he] at hi ⊢
    subst hi
    rintro (r | r)
    · exact h4 r.symm
    · exact h5 r.symm
  · simp only [Finset.mem_union]
  · obtain ⟨e, he⟩ := hP i
    simp only [he] at hi ⊢
    subst hi
    exact fun r => h6 r.symm

theorem split4 : (ℓ ↦[Finset.univ]{q} f : sProp 𝕄) ⊢ iprop((ℓ ↦[P a]{q} f) ∗ (ℓ ↦[P b]{q} f) ∗ (ℓ ↦[P c]{q} f) ∗ ℓ ↦[P d]{q} f) := by
  obtain ⟨k1, k2, k3⟩ := quarter_cuts hP h
  exact k1.split.trans (sep_mono_right (k2.split.trans (sep_mono_right k3.split)))
theorem join4 : iprop((ℓ ↦[P a]{q} f) ∗ (ℓ ↦[P b]{q} f) ∗ (ℓ ↦[P c]{q} f) ∗ ℓ ↦[P d]{q} f) ⊢ (ℓ ↦[Finset.univ]{q} f : sProp 𝕄) := by
  obtain ⟨k1, k2, k3⟩ := quarter_cuts hP h
  exact (sep_mono_right ((sep_mono_right k3.join).trans k2.join)).trans k1.join
theorem splitSome4 : iprop(∃ f : Buf (Elt F) ℓ, ℓ ↦[Finset.univ]{fullShare} f) ⊢ (iprop((∃ f : Buf (Elt F) ℓ, ℓ ↦[P a]{fullShare} f)
    ∗ (∃ f : Buf (Elt F) ℓ, ℓ ↦[P b]{fullShare} f) ∗ (∃ f : Buf (Elt F) ℓ, ℓ ↦[P c]{fullShare} f) ∗ ∃ f : Buf (Elt F) ℓ, ℓ ↦[P d]{fullShare} f) : sProp 𝕄) := by
  obtain ⟨k1, k2, k3⟩ := quarter_cuts hP h
  exact k1.splitSome.trans (sep_mono_right (k2.splitSome.trans (sep_mono_right k3.splitSome)))

end Four

/-- The four blocks in order. -/
theorem order_ne : (0 : Dev nD) ≠ 1 ∧ (0 : Dev nD) ≠ 2 ∧ (0 : Dev nD) ≠ 3 ∧ (1 : Dev nD) ≠ 2 ∧ (1 : Dev nD) ≠ 3 ∧ (2 : Dev nD) ≠ 3 := by decide

end Cert.Exchange

end
-- ==== Proof.Access.lean ====
/-
# Loads and stores, read as values

A load of a whole buffer reads its contents; a store into a region leaves, on that region, any contents that have the
stored values there.
-/
module

public import proofs.«01_k».proof.Proof.Regions

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem zeros2 : (![0, 0] : Fin 2 → ℕ) = fun _ => 0 := by funext a; match a with | ⟨0, _⟩ => rfl | ⟨1, _⟩ => rfl
theorem zeros3 : (![0, 0, 0] : Fin 3 → ℕ) = fun _ => 0 := by funext a; match a with | ⟨0, _⟩ => rfl | ⟨1, _⟩ => rfl | ⟨2, _⟩ => rfl

section Whole
variable (f : Vec F S4096x512 .f32)
theorem read_x (f : Vec F S1024x4096 .f32) : (xM.view.readAt (Elt F) (Rect.unit (s := S1024x4096) ![0, 0] S1024x4096.size inb_S1024x4096_S1024x4096_0_0).toLoadRect f) = f :=
  Memref.readAt_unit_zero (Elt F) cc0_stg0_0 zeros2 _ f
theorem read_w : (wM.view.readAt (Elt F) (Rect.unit (s := S4096x512) ![0, 0] S4096x512.size inb_S4096x512_S4096x512_0_0).toLoadRect f) = f :=
  Memref.readAt_unit_zero (Elt F) cc0_stg1_0 zeros2 _ f
theorem read_r : (rM.view.readAt (Elt F) (Rect.unit (s := S4096x512) ![0, 0] S4096x512.size inb_S4096x512_S4096x512_0_0).toLoadRect f) = f :=
  Memref.readAt_unit_zero (Elt F) cc0_scratch0 zeros2 _ f
theorem read_l : (lM.view.readAt (Elt F) (Rect.unit (s := S4096x512) ![0, 0] S4096x512.size inb_S4096x512_S4096x512_0_0).toLoadRect f) = f :=
  Memref.readAt_unit_zero (Elt F) cc0_scratch1 zeros2 _ f
theorem read_f : (fM.view.readAt (Elt F) (Rect.unit (s := S4096x512) ![0, 0] S4096x512.size inb_S4096x512_S4096x512_0_0).toLoadRect f) = f :=
  Memref.readAt_unit_zero (Elt F) cc0_scratch2 zeros2 _ f
theorem read_a (f : Vec F S4x8x128 .f32) : (aM.view.readAt (Elt F) (Rect.unit (s := S4x8x128) ![0, 0, 0] S4x8x128.size inb_S4x8x128_S4x8x128_0_0_0).toLoadRect f) = f :=
  Memref.readAt_unit_zero (Elt F) cc0_scratch8 zeros3 _ f
end Whole

/-- The set that a rectangle of a whole buffer covers. -/
theorem access_set {sp : Space} {s : Shape} {e : EltTy} (M : Memref sig .tc sp s e) (r : Rect s) :
    (M.access r).set = (M.access r).setOn Finset.univ := rfl

/-- A store over a rectangle leaves the stored values there. -/
theorem stored {sp : CoreSpace} {s : Shape} {e : EltTy} {c : Dev nD} (M : Memref sig .tc sp s e) (r : Rect s)
    (f G : Buf (Elt F) ((M.access r).loc (c : Thread nD τ))) (w : r.shape.Idx → Elt F e) {S : Finset (Idx ((M.access r).loc (c : Thread nD τ)))}
    (hS : (M.access r).set = S) (hG : (M.access r).read (Elt F) G = w) :
    (((M.access r).loc (c : Thread nD τ) ↦[S]{fullShare} ((M.access r).write (Elt F) f w Finset.univ)) : sProp 𝕄)
      = ((M.access r).loc (c : Thread nD τ) ↦[S]{fullShare} G) := by
  subst hS
  refine pointsTo_congr fun i hi => ?_
  obtain ⟨x, rfl⟩ := View.exists_emb_of_mem_set (M.access r) hi
  rw [View.write_emb_of_mem _ _ (Finset.mem_univ x), ← hG, View.read_apply]
  simp

theorem with_emp {P R : sProp 𝕄} (h : P ⊢ R) : iprop(P ∗ emp) ⊢ R := by
  iintro ⟨H, -⟩
  iapply h
  iexact H

/-! ## The regions as sets of the views -/

theorem out_row (off : Fin 2 → ℕ) (d : Dev nD) (h : off = ![1024 * d.val, 0]) (inb) :
    (oM.access (Rect.unit (s := S4096x512) off S1024x512.size inb)).set = rowS d :=
  (View.set_slice_whole cc0_stg2_0 _).trans (rect_row off d h inb)

/-- The result read through the rows of block `d`. -/
theorem read_out_row (off : Fin 2 → ℕ) (d : Dev nD) (h : off = ![1024 * d.val, 0]) (inb) (G : Vec F S4096x512 .f32) :
    (oM.access (Rect.unit (s := S4096x512) off S1024x512.size inb)).read (Elt F) G = fun x => G (rin d x) := by
  funext x
  rw [← emb_row off d h inb x]
  rfl

end Cert.Exchange

end
-- ==== Proof.Meet.lean ====
/-
# The neighbours meet and the columns set out

Device `c` signals both neighbours, waits for both, sends its columns of `w` to the right and to the left, and computes
its own tile.
-/
module

public import proofs.«01_k».proof.Proof.Access

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem barT_at {c e : Dev nD} (h : rt e = c) : barT (F := F) e
    = iprop(some_ c cc0_scratch0 Finset.univ ∗ some_ c cc0_scratch2 loS ∗ some_ c cc0_stg2_0 (rowS e) ∗ some_ c cc0_scratch8 (slotS e)) := by
  subst h; rfl
theorem barF_at {c e : Dev nD} (h : lf e = c) : barF (F := F) e
    = iprop(some_ c cc0_scratch1 Finset.univ ∗ some_ c cc0_scratch2 hiS ∗ some_ c cc0_stg2_0 (rowS e) ∗ some_ c cc0_scratch8 (slotS e)) := by
  subst h; rfl

/-- What the right neighbour's first cell hands over, read from the sender's side. -/
theorem pay7_at (c : Dev nD) : dmaPay m ρ (rt c) 7
    = iprop(pts (rt c) cc0_scratch0 Finset.univ fullShare (wv m ρ c) ∗ some_ c cc0_stg2_0 (rowS (fr c)) ∗ some_ c cc0_scratch8 (slotS (fr c))) := by
  have h : ∀ a b : Dev nD, lf (rt c) = a → rt (rt c) = b → dmaPay m ρ (rt c) 7
      = iprop(pts (rt c) cc0_scratch0 Finset.univ fullShare (wv m ρ a) ∗ some_ a cc0_stg2_0 (rowS b) ∗ some_ a cc0_scratch8 (slotS b)) := by
    intro a b ha hb; subst ha hb; rfl
  exact h c (fr c) (lf_rt c) (rt_rt c)
theorem pay9_at (c : Dev nD) : dmaPay m ρ (lf c) 9 = pts (lf c) cc0_scratch1 Finset.univ fullShare (wv m ρ c) := by
  have h : ∀ a : Dev nD, rt (lf c) = a → dmaPay m ρ (lf c) 9 = pts (lf c) cc0_scratch1 Finset.univ fullShare (wv m ρ a) := by
    intro a ha; subst ha; rfl
  exact h c (rt_lf c)

theorem own_tile (c : Dev nD) : (oM.access (Rect.unit (s := S4096x512) (k0_off1 c) S1024x512.size (k0_off1_inb c))).read (Elt F) (outRaw m ρ c)
    = k0_pay1 (wv m ρ c) (xv m ρ c) := by
  rw [read_out_row _ c (k0_off1_eq c)]
  funext x
  exact outRaw_rin m ρ c c x

set_option maxHeartbeats 1600000 in
/-- Up to the own tile: the columns are on their way, the tile lies in the result. -/
theorem part2 (c : Dev nD) (v2 v14 v25 v28 v29 : BitVec 32) (v34 : BitVec 1) {Q : (Σ' (v36 : BitVec 32), FVec F S1x1024x512 .f32) → sProp 𝕄} :
    iprop(ctx m ρ ∗ own c 0 ∗ dutyTok ER (barCell (lf c)) 0 true ∗ dutyTok ER (barCell (rt c)) 0 false ∗ cred (tallyAt (barCell c) () 2) ∗ atPos ER (barCell c) 0 ∅ 0 ∗ canSend c (dq 3) ∗ canSend c (dq 5) ∗ tok (rt c) (dq 7) ∗ tok (lf c) (dq 9) ∗ pts c cc0_stg0_0 Finset.univ fullShare (xv m ρ c) ∗ pts c cc0_stg1_0 Finset.univ fullShare (wv m ρ c) ∗ some_ c cc0_stg2_0 Finset.univ ∗ some_ c cc0_scratch0 Finset.univ ∗ some_ c cc0_scratch1 Finset.univ ∗ some_ c cc0_scratch2 Finset.univ ∗ some_ c cc0_scratch8 Finset.univ
        ∗ (∀ v36, (own c 4 ∗ atPos ER (barCell c) (0 + 1) ∅ 0 ∗ canWait c (dq 3) ∗ canWait c (dq 5) ∗ pts c cc0_stg0_0 Finset.univ fullShare (xv m ρ c) ∗ pts c cc0_stg1_0 Finset.univ qRR (wv m ρ c) ∗ pts c cc0_stg2_0 (rowS c) fullShare (outRaw m ρ c) ∗ some_ c cc0_scratch8 (slotS c) ∗ some_ (lf c) cc0_scratch2 hiS ∗ some_ (lf c) cc0_stg2_0 (rowS c) ∗ some_ (lf c) cc0_scratch8 (slotS c) ∗ some_ (rt c) cc0_scratch2 loS ∗ some_ (rt c) cc0_stg2_0 (rowS c) ∗ some_ (rt c) cc0_scratch8 (slotS c)) -∗ Q ⟨v36, k0_pay2 (wv m ρ c) (xv m ρ c)⟩))
      ⊢ wp frame (wpE (defs₀ (F := F)) 𝒱₀ (c : Thread nD τ) none) Set.univ (k0_part2 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v14 v25 v28 v29 v34) Q := by
  rw [k0_part2_eq_skeleton]
  unfold k0_part2_skel
  simp only [semSignalWord, semWaitWord, Prog.lift, Prog.bind_op, Prog.bind_ret, Prog.pure_eq_ret]
  iintro ⟨#Hc, HO, HtL, HtR, Hcr, Hat, Hs3, Hs5, Ht7, Ht9, Hx, Hw, Ho, H0, H1, H2, H8, Hk⟩
  -- what the neighbours will write into
  ihave H := cut_half.splitSome $$ H2
  icases H with ⟨H2l, H2h⟩
  ihave H := (splitSome4 quarter_rows (ring_ne c)) $$ Ho
  icases H with ⟨HoC, HoL, HoR, HoF⟩
  ihave H := (splitSome4 quarter_slots (ring_ne c)) $$ H8
  icases H with ⟨HaC, HaL, HaR, HaF⟩
  iapply (step_signal m ρ c (lf c) _ (dev1_eq c) true 0 rfl) $$ [HO HtL H0 H2l HoL HaL]
  · isplitr; · iexact Hc
    isplitl [HO]; · iexact HO
    isplitl [HtL]; · iexact HtL
    rw [if_pos rfl, barT_at (rt_lf c)]
    isplitl [H0]; · iexact H0
    isplitl [H2l]; · iexact H2l
    isplitl [HoL] <;> iassumption
  iintro HO
  iapply (step_signal m ρ c (rt c) _ (dev2_eq c) false 1 rfl) $$ [HO HtR H1 H2h HoR HaR]
  · isplitr; · iexact Hc
    isplitl [HO]; · iexact HO
    isplitl [HtR]; · iexact HtR
    rw [if_neg Bool.false_ne_true, barF_at (lf_rt c)]
    isplitl [H1]; · iexact H1
    isplitl [H2h]; · iexact H2h
    isplitl [HoR] <;> iassumption
  iintro HO
  iapply (step_barrier m ρ c) $$ [HO Hcr Hat]
  · isplitr; · iexact Hc
    isplitl [HO]; · iexact HO
    isplitl [Hcr] <;> iassumption
  iintro ⟨HO, Hat, HF, HT⟩
  unfold barF barT
  icases HF with ⟨⟨%g1, HF1⟩, HF2, HFo, HFa⟩
  icases HT with ⟨⟨%g0, HT0⟩, HT2, HTo, HTa⟩
  -- the columns to the right
  ihave H := share_split $$ Hw
  icases H with ⟨HwL, HwR⟩
  iapply (step_send m ρ c (src := wM) (dst := rM) (rt c) _ (dev3_eq c) 2 (dq 3) (dq 7) ⟨by decide, by have := c.isLt; show 3 ≠ _; omega⟩
      ⟨by decide, by show 7 ≠ _; omega⟩ rfl rfl rfl rfl rfl (Ss := Finset.univ) (Sd := Finset.univ)
      (View.set_whole _) (View.set_whole _) (q := qL) (fs := wv m ρ c) (fd := g0) (wv m ρ c)
      iprop(some_ c cc0_stg2_0 (rowS (fr c)) ∗ some_ c cc0_scratch8 (slotS (fr c)))
      rfl (Entails.of_eq rfl) (Entails.of_eq (pay7_at m ρ c).symm)) $$ [HO Hs3 Ht7 HwL HT0 HoF HaF]
  · isplitr; · iexact Hc
    isplitl [HO]; · iexact HO
    isplitl [Hs3]; · iexact Hs3
    isplitl [Ht7]; · iexact Ht7
    isplitl [HwL]; · iexact HwL
    isplitl [HT0]; · iexact HT0
    isplitl [HoF] <;> iassumption
  iintro ⟨HO, Hw3⟩
  -- and to the left
  ihave H := share_split $$ HwR
  icases H with ⟨HwRL, HwRR⟩
  iapply (step_send m ρ c (src := wM) (dst := lM) (lf c) _ (dev4_eq c) 3 (dq 5) (dq 9) ⟨by decide, by show 5 ≠ _; omega⟩
      ⟨by decide, by show 9 ≠ _; omega⟩ rfl rfl rfl rfl rfl (Ss := Finset.univ) (Sd := Finset.univ)
      (View.set_whole _) (View.set_whole _) (q := qRL) (fs := wv m ρ c) (fd := g1) (wv m ρ c)
      iprop(emp)
      rfl (Entails.of_eq rfl) (with_emp (Entails.of_eq (pay9_at m ρ c).symm))) $$ [HO Hs5 Ht9 HwRL HF1]
  · isplitr; · iexact Hc
    isplitl [HO]; · iexact HO
    isplitl [Hs5]; · iexact Hs5
    isplitl [Ht9]; · iexact Ht9
    isplitl [HwRL]; · iexact HwRL
    isplitl [HF1]; · iexact HF1
    iempintro
  iintro ⟨HO, Hw5⟩
  -- the own tile
  iapply (wp_load 𝒱₀ (c : Thread nD τ) none Set.univ (m := wM) (Finset.subset_univ _)) $$ HwRR; iintro HwRR
  rw [read_w]
  iapply (wp_load 𝒱₀ (c : Thread nD τ) none Set.univ (m := xM) (Finset.subset_univ _)) $$ Hx; iintro Hx
  rw [read_x]
  icases HoC with ⟨%go, HoC⟩
  iapply (wp_load_rect 𝒱₀ (c : Thread nD τ) none Set.univ (m := oM) (r := Rect.unit (s := S4096x512) (k0_off1 c) S1024x512.size (k0_off1_inb c)) (by rw [out_row _ c (k0_off1_eq c)])) $$ HoC; iintro HoC
  iapply (wp_store 𝒱₀ (c : Thread nD τ) none Set.univ (m := oM) (r := Rect.unit (s := S4096x512) (k0_off1 c) S1024x512.size (k0_off1_inb c)) (Mk := Finset.univ) (by rw [← access_set, out_row _ c (k0_off1_eq c)])) $$ HoC; iintro HoC
  ihave HoC := (Entails.of_eq (stored oM _ go (outRaw m ρ c) _ (out_row _ c (k0_off1_eq c) _) (own_tile m ρ c))) $$ HoC
  rw [wp_ret]; imodintro
  iapply Hk
  isplitl [HO]; · iexact HO
  isplitl [Hat]; · iexact Hat
  isplitl [Hw3]; · iexact Hw3
  isplitl [Hw5]; · iexact Hw5
  isplitl [Hx]; · iexact Hx
  isplitl [HwRR]; · iexact HwRR
  isplitl [HoC]; · iexact HoC
  isplitl [HaC]; · iexact HaC
  isplitl [HF2]; · iexact HF2
  isplitl [HFo]; · iexact HFo
  isplitl [HFa]; · iexact HFa
  isplitl [HT2]; · iexact HT2
  isplitl [HTo] <;> iassumption

end Cert.Exchange

end
-- ==== Proof.Pass.lean ====
/-
# The columns pass on

What arrives from the left goes on to the right by halves, and what arrives from the right to the left; the first tile
for a neighbour is computed and leaves.
-/
module

public import proofs.«01_k».proof.Proof.Meet

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem fr_rt (c : Dev nD) : fr (rt c) = lf c := by revert c; decide
theorem fr_lf (c : Dev nD) : fr (lf c) = rt c := by revert c; decide

abbrev hiR : Rect S4096x512 := Rect.unit (s := S4096x512) ![0, 256] S4096x256.size inb_S4096x512_S4096x256_0_256
abbrev vR : Rect S4096x512 := Rect.unit (s := S4096x512) ![0, 256] S1024x256.size inb_S4096x512_S1024x256_0_256
abbrev tile0R : Rect S2x1024x512 := Rect.unit (s := S2x1024x512) ![0, 0, 0] S1x1024x512.size inb_S2x1024x512_S1x1024x512_0_0_0
abbrev tile1R : Rect S2x1024x512 := Rect.unit (s := S2x1024x512) ![1, 0, 0] S1x1024x512.size inb_S2x1024x512_S1x1024x512_1_0_0
abbrev tile0M : Memref sig .tc .vmem S1024x512 .f32 := (tM.slice tile0R (fun _ => rfl)).squeeze S1024x512 squeezes_S1x1024x512_S1024x512
abbrev tile1M : Memref sig .tc .vmem S1024x512 .f32 := (tM.slice tile1R (fun _ => rfl)).squeeze S1024x512 squeezes_S1x1024x512_S1024x512
abbrev sendRow (c : Dev nD) : Rect S4096x512 := Rect.unit (s := S4096x512) (k0_off2 c) S1024x512.size (k0_off2_inb c)

/-- What the right neighbour's second cell hands over, read from the sender's side. -/
theorem pay8_at (c : Dev nD) : dmaPay m ρ (rt c) 8
    = iprop(pts (rt c) cc0_scratch2 loS fullShare (wv m ρ (lf c)) ∗ some_ (lf c) cc0_stg2_0 (rowS (rt c)) ∗ some_ (lf c) cc0_scratch8 (slotS (rt c))) := by
  have h : ∀ a : Dev nD, fr (rt c) = a → dmaPay m ρ (rt c) 8
      = iprop(pts (rt c) cc0_scratch2 loS fullShare (wv m ρ a) ∗ some_ a cc0_stg2_0 (rowS (rt c)) ∗ some_ a cc0_scratch8 (slotS (rt c))) := by
    intro a ha; subst ha; rfl
  exact h _ (fr_rt c)
theorem pay10_at (c : Dev nD) : dmaPay m ρ (lf c) 10 = pts (lf c) cc0_scratch2 hiS fullShare (wv m ρ (rt c)) := by
  have h : ∀ a : Dev nD, fr (lf c) = a → dmaPay m ρ (lf c) 10 = pts (lf c) cc0_scratch2 hiS fullShare (wv m ρ a) := by
    intro a ha; subst ha; rfl
  exact h _ (fr_lf c)
theorem pay16_at (c : Dev nD) : dmaPay m ρ (lf c) 16 = pts (lf c) cc0_stg2_0 (rowS c) fullShare (outRaw m ρ (lf c)) := by
  have h : ∀ a : Dev nD, rt (lf c) = a → dmaPay m ρ (lf c) 16 = pts (lf c) cc0_stg2_0 (rowS a) fullShare (outRaw m ρ (lf c)) := by
    intro a ha; subst ha; rfl
  exact h _ (rt_lf c)
theorem pay15_at (c : Dev nD) : dmaPay m ρ (rt c) 15 = pts (rt c) cc0_stg2_0 (rowS c) fullShare (outRaw m ρ (rt c)) := by
  have h : ∀ a : Dev nD, lf (rt c) = a → dmaPay m ρ (rt c) 15 = pts (rt c) cc0_stg2_0 (rowS a) fullShare (outRaw m ρ (rt c)) := by
    intro a ha; subst ha; rfl
  exact h _ (lf_rt c)

/-! The tiles, in whichever of the program's forms, are the same function of the two operands. -/

theorem tile4 (w : Vec F S4096x512 .f32) (x : Vec F S1024x4096 .f32) : k0_pay4 w x = shapeCast S1x1024x512 (k0_pay1 w x) shapeCasts_S1024x512_S1x1024x512 := by
  unfold k0_pay4 k0_pay1; simp only [shapeCast_self]
theorem tile6 (w : Vec F S4096x512 .f32) (x : Vec F S1024x4096 .f32) : k0_pay6 w x = k0_pay1 w x := by
  unfold k0_pay6 k0_pay1; simp only [shapeCast_self]
theorem tile9 (w : Vec F S4096x512 .f32) (x : Vec F S1024x4096 .f32) : k0_pay9 w x = k0_pay1 w x := by
  unfold k0_pay9 k0_pay1; simp only [shapeCast_self]
theorem tile_back (t : Vec F S1024x512 .f32) :
    shapeCast S1024x512 (shapeCast S1x1024x512 t shapeCasts_S1024x512_S1x1024x512) shapeCasts_S1x1024x512_S1024x512 = t :=
  shapeCast_shapeCast t _ _

theorem tile0_set : tile0M.view.set = tileS 0 := by
  rw [show tile0M.view.set = ((View.whole cc0_scratch3).slice tile0R).set from View.set_reshape _ _]
  exact (View.set_slice_whole cc0_scratch3 _).trans (rect_tile _ 0 rfl _)
theorem tile1_set : tile1M.view.set = tileS 1 := by
  rw [show tile1M.view.set = ((View.whole cc0_scratch3).slice tile1R).set from View.set_reshape _ _]
  exact (View.set_slice_whole cc0_scratch3 _).trans (rect_tile _ 1 rfl _)
theorem tile0_acc : (tM.access tile0R).set = tileS 0 := (View.set_slice_whole cc0_scratch3 _).trans (rect_tile _ 0 rfl _)
theorem tile1_acc : (tM.access tile1R).set = tileS 1 := (View.set_slice_whole cc0_scratch3 _).trans (rect_tile _ 1 rfl _)

/-- The rows a tile lands in, on the device it is sent to. -/
theorem sendRow_set (c : Dev nD) : (oM.slice (sendRow c) (fun _ => rfl)).view.set = rowS c :=
  (View.set_slice_whole cc0_stg2_0 _).trans (rect_row _ c (k0_off2_eq c) _)
theorem sendRow_read (c e : Dev nD) : (oM.slice (sendRow c) (fun _ => rfl)).view.read (Elt F) (outRaw m ρ e) = k0_pay1 (wv m ρ e) (xv m ρ c) := by
  refine (read_out_row _ c (k0_off2_eq c) _ _).trans ?_
  funext x
  exact outRaw_rin m ρ e c x
theorem tile0_read (f : Vec F S2x1024x512 .f32) (t : Vec F S1024x512 .f32) (w : Vec F S1x1024x512 .f32)
    (h : w = shapeCast S1x1024x512 t shapeCasts_S1024x512_S1x1024x512) :
    tile0M.view.read (Elt F) ((tM.access tile0R).write (Elt F) f w Finset.univ) = t := by
  subst h
  refine (Memref.read_squeeze_slice tM tile0R (fun _ => rfl) squeezes_S1x1024x512_S1024x512 shapeCasts_S1x1024x512_S1024x512 _).trans ?_
  rw [View.readAt_rect]
  refine (congrArg (fun v => shapeCast S1024x512 v shapeCasts_S1x1024x512_S1024x512) (View.read_write_univ (v := tM.access tile0R) _ _)).trans ?_
  exact tile_back t
theorem tile1_read (f : Vec F S2x1024x512 .f32) (t : Vec F S1024x512 .f32) (w : Vec F S1x1024x512 .f32)
    (h : w = shapeCast S1x1024x512 t shapeCasts_S1024x512_S1x1024x512) :
    tile1M.view.read (Elt F) ((tM.access tile1R).write (Elt F) f w Finset.univ) = t := by
  subst h
  refine (Memref.read_squeeze_slice tM tile1R (fun _ => rfl) squeezes_S1x1024x512_S1024x512 shapeCasts_S1x1024x512_S1024x512 _).trans ?_
  rw [View.readAt_rect]
  refine (congrArg (fun v => shapeCast S1024x512 v shapeCasts_S1x1024x512_S1024x512) (View.read_write_univ (v := tM.access tile1R) _ _)).trans ?_
  exact tile_back t

/-- What the first and the second cell hand over. -/
theorem pay7_def (c : Dev nD) : dmaPay m ρ c (dq 7).val = iprop(pts c cc0_scratch0 Finset.univ fullShare (wv m ρ (lf c))
      ∗ some_ (lf c) cc0_stg2_0 (rowS (rt c)) ∗ some_ (lf c) cc0_scratch8 (slotS (rt c))) := rfl
theorem pay8_def (c : Dev nD) : dmaPay m ρ c (dq 8).val = iprop(pts c cc0_scratch2 loS fullShare (wv m ρ (fr c))
      ∗ some_ (fr c) cc0_stg2_0 (rowS c) ∗ some_ (fr c) cc0_scratch8 (slotS c)) := rfl

theorem pay9_def (c : Dev nD) : dmaPay m ρ c (dq 9).val = pts c cc0_scratch1 Finset.univ fullShare (wv m ρ (rt c)) := rfl
theorem pay10_def (c : Dev nD) : dmaPay m ρ c (dq 10).val = pts c cc0_scratch2 hiS fullShare (wv m ρ (fr c)) := rfl
theorem pay4_def (c : Dev nD) : dmaPay m ρ c (dq 4).val = pts c cc0_scratch0 loS qL (wv m ρ (lf c)) := rfl

theorem toSome {c : Dev nD} {b : Ref sig .tc} {S : Finset (Idx ((c : Thread nD τ).loc b))} (f : Buf (Elt F) ((c : Thread nD τ).loc b)) :
    (pts c b S fullShare f : sProp 𝕄) ⊢ some_ c b S := by
  iintro H; iexists f; iexact H

set_option maxHeartbeats 1600000 in
/-- Up to the columns from the left: both halves have left for the device opposite. -/
theorem part3 (c : Dev nD) (v14 v25 : BitVec 32) (v64 : FVec F S1x1024x512 .f32) {Q : (Σ' (v67 : F .f32), Vec F S4096x512 .f32) → sProp 𝕄} :
    iprop(ctx m ρ ∗ own c 4 ∗ canWait c (dq 7) ∗ canWait c (dq 9) ∗ canSend c (dq 4) ∗ canSend c (dq 6) ∗ tok (rt c) (dq 8) ∗ tok (lf c) (dq 10) ∗ some_ (rt c) cc0_scratch2 loS ∗ some_ (lf c) cc0_scratch2 hiS
        ∗ ((own c 6 ∗ spent c (dq 7) ∗ spent c (dq 9) ∗ canWait c (dq 4) ∗ canWait c (dq 6) ∗ pts c cc0_scratch0 Finset.univ qR (wv m ρ (lf c)) ∗ pts c cc0_scratch0 hiS qL (wv m ρ (lf c)) ∗ pts c cc0_scratch1 Finset.univ qR (wv m ρ (rt c)) ∗ pts c cc0_scratch1 loS qL (wv m ρ (rt c))) -∗ Q ⟨k0_pay3 v64, wv m ρ (lf c)⟩))
      ⊢ wp frame (wpE (defs₀ (F := F)) 𝒱₀ (c : Thread nD τ) none) Set.univ (k0_part3 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v14 v25 v64) Q := by
  rw [k0_part3_eq_skeleton]
  unfold k0_part3_skel
  simp only [semSignalWord, semWaitWord, Prog.lift, Prog.bind_op, Prog.bind_ret, Prog.pure_eq_ret]
  iintro ⟨#Hc, HO, H7, H9, Hs4, Hs6, Ht8, Ht10, Hrt, Hlf, Hk⟩
  icases Hrt with ⟨%g2, Hrt⟩
  icases Hlf with ⟨%g3, Hlf⟩
  iapply (step_wait m ρ c 4 (dq 7) ⟨by decide, by show 7 ≠ _; omega⟩ rfl (src := wM) (dst := rM) rfl (lv_w0 c)) $$ [HO H7]
  · isplitr; · iexact Hc
    isplitl [HO] <;> iassumption
  iintro ⟨HO, H7, Hp⟩
  ihave Hp := (Entails.of_eq (pay7_def m ρ c)) $$ Hp
  icases Hp with ⟨H0, HFo, HFa⟩
  ihave H := share_split $$ H0
  icases H with ⟨H0L, H0R⟩
  ihave H := cut_half.split $$ H0L
  icases H with ⟨H0Ll, H0Lh⟩
  iapply (step_send m ρ c (src := rM.slice loR (fun _ => rfl)) (dst := fM.slice loR (fun _ => rfl)) (rt c) _ (dev5_eq c) 4 (dq 4) (dq 8) ⟨by decide, by show 4 ≠ _; omega⟩
      ⟨by decide, by show 8 ≠ _; omega⟩ rfl rfl rfl rfl rfl
      (Ss := loS) (Sd := loS) ((View.set_slice_whole cc0_scratch0 _).trans (rect_lo _)) ((View.set_slice_whole cc0_scratch2 _).trans (rect_lo _)) (q := qL) (fs := wv m ρ (lf c)) (fd := g2) (wv m ρ (lf c))
      iprop(some_ (lf c) cc0_stg2_0 (rowS (rt c)) ∗ some_ (lf c) cc0_scratch8 (slotS (rt c)))
      rfl (Entails.of_eq rfl) (Entails.of_eq (pay8_at m ρ c).symm)) $$ [HO Hs4 Ht8 H0Ll Hrt HFo HFa]
  · isplitr; · iexact Hc
    isplitl [HO]; · iexact HO
    isplitl [Hs4]; · iexact Hs4
    isplitl [Ht8]; · iexact Ht8
    isplitl [H0Ll]; · iexact H0Ll
    isplitl [Hrt]; · iexact Hrt
    isplitl [HFo] <;> iassumption
  iintro ⟨HO, H4⟩
  iapply (step_wait m ρ c 5 (dq 9) ⟨by decide, by show 9 ≠ _; omega⟩ rfl (src := wM) (dst := lM) rfl (lv_w2 c)) $$ [HO H9]
  · isplitr; · iexact Hc
    isplitl [HO] <;> iassumption
  iintro ⟨HO, H9, H1⟩
  ihave H1 := (Entails.of_eq (pay9_def m ρ c)) $$ H1
  ihave H := share_split $$ H1
  icases H with ⟨H1L, H1R⟩
  ihave H := cut_half.split $$ H1L
  icases H with ⟨H1Ll, H1Lh⟩
  iapply (step_send m ρ c (src := lM.slice hiR (fun _ => rfl)) (dst := fM.slice hiR (fun _ => rfl)) (lf c) _ (dev6_eq c) 5 (dq 6) (dq 10) ⟨by decide, by show 6 ≠ _; omega⟩
      ⟨by decide, by show 10 ≠ _; omega⟩ rfl rfl rfl rfl rfl
      (Ss := hiS) (Sd := hiS) ((View.set_slice_whole cc0_scratch1 _).trans (rect_hi _)) ((View.set_slice_whole cc0_scratch2 _).trans (rect_hi _)) (q := qL) (fs := wv m ρ (rt c)) (fd := g3) (wv m ρ (rt c))
      iprop(emp)
      rfl (Entails.of_eq rfl) (with_emp (Entails.of_eq (pay10_at m ρ c).symm))) $$ [HO Hs6 Ht10 H1Lh Hlf]
  · isplitr; · iexact Hc
    isplitl [HO]; · iexact HO
    isplitl [Hs6]; · iexact Hs6
    isplitl [Ht10]; · iexact Ht10
    isplitl [H1Lh]; · iexact H1Lh
    isplitl [Hlf]; · iexact Hlf
    iempintro
  iintro ⟨HO, H6⟩
  iapply (wp_load 𝒱₀ (c : Thread nD τ) none Set.univ (m := rM) (Finset.subset_univ _)) $$ H0R; iintro H0R
  rw [read_r, wp_ret]; imodintro
  iapply Hk
  isplitl [HO]; · iexact HO
  isplitl [H7]; · iexact H7
  isplitl [H9]; · iexact H9
  isplitl [H4]; · iexact H4
  isplitl [H6]; · iexact H6
  isplitl [H0R]; · iexact H0R
  isplitl [H0Lh]; · iexact H0Lh
  isplitl [H1R] <;> iassumption

set_option maxHeartbeats 1600000 in
/-- The tile for the left neighbour: computed from its columns, sent to its rows. -/
theorem part4 (c : Dev nD) (v2 v14 : BitVec 32) (v67 : F .f32) {Q : (Σ' (v107 : F .f32), FVec F S1024x512 .f32) → sProp 𝕄} :
    iprop(ctx m ρ ∗ own c 6 ∗ canSend c (dq 11) ∗ tok (lf c) (dq 16) ∗ some_ (lf c) cc0_stg2_0 (rowS c) ∗ pts c cc0_stg0_0 Finset.univ fullShare (xv m ρ c) ∗ some_ c cc0_scratch3 Finset.univ ∗ pts c cc0_scratch1 Finset.univ qR (wv m ρ (rt c))
        ∗ ((own c 7 ∗ canWait c (dq 11) ∗ pts c cc0_stg0_0 Finset.univ fullShare (xv m ρ c) ∗ some_ c cc0_scratch3 (tileS 1) ∗ pts c cc0_scratch1 Finset.univ qR (wv m ρ (rt c))) -∗ Q ⟨k0_pay5 v67 (k0_pay4 (wv m ρ (lf c)) (xv m ρ c)), k0_pay6 (wv m ρ (rt c)) (xv m ρ c)⟩))
      ⊢ wp frame (wpE (defs₀ (F := F)) 𝒱₀ (c : Thread nD τ) none) Set.univ (k0_part4 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v14 v67 (wv m ρ (lf c))) Q := by
  rw [k0_part4_eq_skeleton]
  unfold k0_part4_skel
  simp only [semSignalWord, semWaitWord, Prog.lift, Prog.bind_op, Prog.bind_ret, Prog.pure_eq_ret]
  iintro ⟨#Hc, HO, Hs, Ht, Hd, Hx, H3, H1, Hk⟩
  icases Hd with ⟨%gd, Hd⟩
  ihave H := cut_tile.splitSome $$ H3
  icases H with ⟨⟨%ft, H3a⟩, H3b⟩
  iapply (wp_load 𝒱₀ (c : Thread nD τ) none Set.univ (m := xM) (Finset.subset_univ _)) $$ Hx; iintro Hx
  rw [read_x]
  iapply (wp_load_rect 𝒱₀ (c : Thread nD τ) none Set.univ (m := tM) (r := tile0R) (by rw [tile0_acc])) $$ H3a; iintro H3a
  iapply (wp_store 𝒱₀ (c : Thread nD τ) none Set.univ (m := tM) (r := tile0R) (Mk := Finset.univ) (by rw [← access_set, tile0_acc])) $$ H3a; iintro H3a
  iapply (wp_load_rect 𝒱₀ (c : Thread nD τ) none Set.univ (m := tM) (r := tile0R) (by rw [tile0_acc])) $$ H3a; iintro H3a
  rw [View.read_write_univ]
  iapply (step_send m ρ c (src := tile0M) (dst := oM.slice (sendRow c) (fun _ => rfl)) (lf c) _ (dev7_eq c) 6 (dq 11) (dq 16) ⟨by decide, by show 11 ≠ _; omega⟩
      ⟨by decide, by show 16 ≠ _; omega⟩ rfl rfl rfl rfl rfl
      (Ss := tileS 0) (Sd := rowS c) tile0_set (sendRow_set c) (q := fullShare) (fs := (tM.access tile0R).write (Elt F) ft (k0_pay4 (wv m ρ (lf c)) (xv m ρ c)) Finset.univ) (fd := gd) (outRaw m ρ (lf c))
      iprop(emp)
      ((sendRow_read m ρ c (lf c)).trans (tile0_read _ _ _ (tile4 _ _)).symm) (toSome _) (with_emp (Entails.of_eq (pay16_at m ρ c).symm))) $$ [HO Hs Ht H3a Hd]
  · isplitr; · iexact Hc
    isplitl [HO]; · iexact HO
    isplitl [Hs]; · iexact Hs
    isplitl [Ht]; · iexact Ht
    isplitl [H3a]; · iexact H3a
    isplitl [Hd]; · iexact Hd
    iempintro
  iintro ⟨HO, Hn⟩

  iapply (wp_load 𝒱₀ (c : Thread nD τ) none Set.univ (m := lM) (Finset.subset_univ _)) $$ H1; iintro H1
  rw [read_l]
  iapply (wp_load 𝒱₀ (c : Thread nD τ) none Set.univ (m := xM) (Finset.subset_univ _)) $$ Hx; iintro Hx
  rw [read_x, wp_ret]; imodintro
  iapply Hk
  isplitl [HO]; · iexact HO
  isplitl [Hn]; · iexact Hn
  isplitl [Hx]; · iexact Hx
  isplitl [H3b] <;> iassumption

end Cert.Exchange

end
-- ==== Proof.Tiles.lean ====
/-
# The tiles for the right neighbour and for the device opposite

The tile for the right neighbour leaves; the two halves of the opposite device's columns arrive, its tile is computed
in the place of the columns from the left, and leaves by halves.
-/
module

public import proofs.«01_k».proof.Proof.Pass

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev loRow (c : Dev nD) : Rect S4096x512 := Rect.unit (s := S4096x512) (k0_off3 c) S1024x256.size (k0_off3_inb c)
abbrev hiRow (c : Dev nD) : Rect S4096x512 := Rect.unit (s := S4096x512) (k0_off4 c) S1024x256.size (k0_off4_inb c)
abbrev slotR (c : Dev nD) : Rect S4x8x128 := Rect.unit (s := S4x8x128) (k0_off5 c) S1x8x128.size (k0_off5_inb c)

theorem top_set : (rM.access tR).set = rowS 0 := (View.set_slice_whole cc0_scratch0 _).trans (rect_row _ 0 rfl _)
theorem topLo_set : (rM.slice uR (fun _ => rfl)).view.set = rowLo 0 := (View.set_slice_whole cc0_scratch0 _).trans (rect_rowLo _ 0 rfl _)
theorem topHi_set : (rM.slice vR (fun _ => rfl)).view.set = rowHi 0 := (View.set_slice_whole cc0_scratch0 _).trans (rect_rowHi _ 0 rfl _)
theorem loRow_set (c : Dev nD) : (oM.slice (loRow c) (fun _ => rfl)).view.set = rowLo c := (View.set_slice_whole cc0_stg2_0 _).trans (rect_rowLo _ c (k0_off3_eq c) _)
theorem hiRow_set (c : Dev nD) : (oM.slice (hiRow c) (fun _ => rfl)).view.set = rowHi c := (View.set_slice_whole cc0_stg2_0 _).trans (rect_rowHi _ c (k0_off4_eq c) _)
theorem slot_acc (c : Dev nD) : (aM.access (slotR c)).set = slotS c := (View.set_slice_whole cc0_scratch8 _).trans (rect_slot _ c (k0_off5_eq c) _)

/-- A tile stored over the top rows, read back by halves. -/
theorem top_half (f : Vec F S4096x512 .f32) (w : Vec F S1024x512 .f32) (k : ℕ) (hk : k ≤ 256) (off : Fin 2 → ℕ) (h : off = ![0, k]) (inb) :
    (rM.slice (Rect.unit (s := S4096x512) off S1024x256.size inb) (fun _ => rfl)).view.read (Elt F) ((rM.access tR).write (Elt F) f w Finset.univ)
      = fun x => w (half k hk x) := by
  funext x
  have h1 : (Rect.unit (s := S4096x512) off S1024x256.size inb).emb x = tR.emb (half k hk x) :=
    (emb_half off 0 k hk h inb x).trans (emb_row ![0, 0] 0 rfl _ _).symm
  show (rM.access tR).write (Elt F) f w Finset.univ ((Rect.unit (s := S4096x512) off S1024x256.size inb).emb x) = _
  rw [h1]
  exact congrFun (View.read_write_univ (v := rM.access tR) f w) (half k hk x)

theorem out_half (c e : Dev nD) (k : ℕ) (hk : k ≤ 256) (off : Fin 2 → ℕ) (h : off = ![1024 * c.val, k]) (inb) :
    (oM.slice (Rect.unit (s := S4096x512) off S1024x256.size inb) (fun _ => rfl)).view.read (Elt F) (outRaw m ρ e)
      = fun x => k0_pay1 (wv m ρ e) (xv m ρ c) (half k hk x) := by
  funext x
  show outRaw m ρ e ((Rect.unit (s := S4096x512) off S1024x256.size inb).emb x) = _
  rw [emb_half off c k hk h inb x]
  exact outRaw_rin m ρ e c _

theorem pay17_at (c : Dev nD) : dmaPay m ρ (fr c) 17 = pts (fr c) cc0_stg2_0 (rowLo c) fullShare (outRaw m ρ (fr c)) := by
  have h : ∀ a : Dev nD, fr (fr c) = a → dmaPay m ρ (fr c) 17 = pts (fr c) cc0_stg2_0 (rowLo a) fullShare (outRaw m ρ (fr c)) := by
    intro a ha; subst ha; rfl
  exact h _ (fr_fr c)
theorem pay18_at (c : Dev nD) : dmaPay m ρ (fr c) 18 = pts (fr c) cc0_stg2_0 (rowHi c) fullShare (outRaw m ρ (fr c)) := by
  have h : ∀ a : Dev nD, fr (fr c) = a → dmaPay m ρ (fr c) 18 = pts (fr c) cc0_stg2_0 (rowHi a) fullShare (outRaw m ρ (fr c)) := by
    intro a ha; subst ha; rfl
  exact h _ (fr_fr c)

/-- A device's slot of the maxima holds its maximum everywhere. -/
theorem slot_read (c : Dev nD) : (aM.access (slotR c)).read (Elt F) (amaxC m ρ) = k0_pay11 (amax m ρ c) := by
  funext x
  show amax m ρ _ = amax m ρ c
  refine congrArg (amax m ρ) (Fin.ext ?_)
  have h0 : (x 0).val < 1 := (x 0).isLt
  show (k0_off5 c) 0 + 1 * (x 0).val = c.val
  rw [k0_off5_eq]
  show c.val + 1 * (x 0).val = c.val
  omega

set_option maxHeartbeats 1600000 in
/-- The tile for the right neighbour leaves; the left half of the opposite device's columns is there. -/
theorem part5 (c : Dev nD) (v2 v14 v25 : BitVec 32) (v107 : F .f32) {Q : F .f32 → sProp 𝕄} :
    iprop(ctx m ρ ∗ own c 7 ∗ canSend c (dq 12) ∗ tok (rt c) (dq 15) ∗ some_ (rt c) cc0_stg2_0 (rowS c) ∗ some_ c cc0_scratch3 (tileS 1) ∗ canWait c (dq 8)
        ∗ ((own c 8 ∗ canWait c (dq 12) ∗ spent c (dq 8) ∗ pts c cc0_scratch2 loS fullShare (wv m ρ (fr c)) ∗ some_ (fr c) cc0_stg2_0 (rowS c) ∗ some_ (fr c) cc0_scratch8 (slotS c)) -∗ Q (k0_pay8 v107 (k0_pay7 (k0_pay6 (wv m ρ (rt c)) (xv m ρ c))))))
      ⊢ wp frame (wpE (defs₀ (F := F)) 𝒱₀ (c : Thread nD τ) none) Set.univ (k0_part5 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v14 v25 v107 (k0_pay6 (wv m ρ (rt c)) (xv m ρ c))) Q := by
  rw [k0_part5_eq_skeleton]
  unfold k0_part5_skel
  simp only [semSignalWord, semWaitWord, Prog.lift, Prog.bind_op, Prog.bind_ret, Prog.pure_eq_ret]
  iintro ⟨#Hc, HO, Hs, Ht, Hd, H3, H8, Hk⟩
  icases Hd with ⟨%gd, Hd⟩
  icases H3 with ⟨%ft, H3⟩
  iapply (wp_load_rect 𝒱₀ (c : Thread nD τ) none Set.univ (m := tM) (r := tile1R) (by rw [tile1_acc])) $$ H3; iintro H3
  iapply (wp_store 𝒱₀ (c : Thread nD τ) none Set.univ (m := tM) (r := tile1R) (Mk := Finset.univ) (by rw [← access_set, tile1_acc])) $$ H3; iintro H3
  iapply (wp_load_rect 𝒱₀ (c : Thread nD τ) none Set.univ (m := tM) (r := tile1R) (by rw [tile1_acc])) $$ H3; iintro H3
  rw [View.read_write_univ]
  iapply (step_send m ρ c (src := tile1M) (dst := oM.slice (sendRow c) (fun _ => rfl)) (rt c) _ (dev8_eq c) 7 (dq 12) (dq 15) ⟨by decide, by show 12 ≠ _; omega⟩
      ⟨by decide, by show 15 ≠ _; omega⟩ rfl rfl rfl rfl rfl
      (Ss := tileS 1) (Sd := rowS c) tile1_set (sendRow_set c) (q := fullShare) (fs := (tM.access tile1R).write (Elt F) ft (k0_pay7 (k0_pay6 (wv m ρ (rt c)) (xv m ρ c))) Finset.univ) (fd := gd) (outRaw m ρ (rt c))
      iprop(emp)
      ((sendRow_read m ρ c (rt c)).trans (tile1_read _ _ _ (congrArg k0_pay7 (tile6 _ _))).symm) (toSome _) (with_emp (Entails.of_eq (pay15_at m ρ c).symm))) $$ [HO Hs Ht H3 Hd]
  · isplitr; · iexact Hc
    isplitl [HO]; · iexact HO
    isplitl [Hs]; · iexact Hs
    isplitl [Ht]; · iexact Ht
    isplitl [H3]; · iexact H3
    isplitl [Hd]; · iexact Hd
    iempintro
  iintro ⟨HO, Hn⟩
  iapply (step_wait m ρ c 8 (dq 8) ⟨by decide, by show 8 ≠ _; omega⟩ rfl (src := rM.slice loR (fun _ => rfl)) (dst := fM.slice loR (fun _ => rfl)) rfl (lv_8 c _ (by decide))) $$ [HO H8]
  · isplitr; · iexact Hc
    isplitl [HO] <;> iassumption
  iintro ⟨HO, H8, Hp⟩
  ihave Hp := (Entails.of_eq (pay8_def m ρ c)) $$ Hp
  icases Hp with ⟨H2, Hfo, Hfa⟩
  rw [wp_ret]; imodintro
  iapply Hk
  isplitl [HO]; · iexact HO
  isplitl [Hn]; · iexact Hn
  isplitl [H8]; · iexact H8
  isplitl [H2]; · iexact H2
  isplitl [Hfo] <;> iassumption

set_option maxHeartbeats 1600000 in
/-- The opposite device's columns are there, and its tile is computed over the columns from the left. -/
theorem part6 (c : Dev nD) (v2 v36 : BitVec 32) (v133 : F .f32) {Q : F .f32 → sProp 𝕄} :
    iprop(ctx m ρ ∗ own c 8 ∗ canWait c (dq 10) ∗ canWait c (dq 4) ∗ pts c cc0_scratch2 loS fullShare (wv m ρ (fr c)) ∗ pts c cc0_stg0_0 Finset.univ fullShare (xv m ρ c) ∗ pts c cc0_scratch0 Finset.univ qR (wv m ρ (lf c)) ∗ pts c cc0_scratch0 hiS qL (wv m ρ (lf c))
        ∗ ((own c 8 ∗ spent c (dq 10) ∗ spent c (dq 4) ∗ pts c cc0_scratch2 Finset.univ fullShare (wv m ρ (fr c)) ∗ pts c cc0_stg0_0 Finset.univ fullShare (xv m ρ c) ∗ pts c cc0_scratch0 Finset.univ fullShare ((rM.access tR).write (Elt F) (wv m ρ (lf c)) (k0_pay9 (wv m ρ (fr c)) (xv m ρ c)) Finset.univ)) -∗ Q (k0_pay10 v133 (k0_pay9 (wv m ρ (fr c)) (xv m ρ c)))))
      ⊢ wp frame (wpE (defs₀ (F := F)) 𝒱₀ (c : Thread nD τ) none) Set.univ (k0_part6 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v36 v133) Q := by
  rw [k0_part6_eq_skeleton]
  unfold k0_part6_skel
  simp only [semSignalWord, semWaitWord, Prog.lift, Prog.bind_op, Prog.bind_ret, Prog.pure_eq_ret]
  iintro ⟨#Hc, HO, H10, H4, H2l, Hx, H0R, H0h, Hk⟩
  iapply (step_wait m ρ c 8 (dq 10) ⟨by decide, by show 10 ≠ _; omega⟩ rfl (src := lM.slice hiR (fun _ => rfl)) (dst := fM.slice hiR (fun _ => rfl)) rfl (lv_8 c _ (by decide))) $$ [HO H10]
  · isplitr; · iexact Hc
    isplitl [HO] <;> iassumption
  iintro ⟨HO, H10, H2h⟩
  ihave H2h := (Entails.of_eq (pay10_def m ρ c)) $$ H2h
  iapply (step_wait m ρ c 8 (dq 4) ⟨by decide, by show 4 ≠ _; omega⟩ rfl (src := fM.slice loR (fun _ => rfl)) (dst := rM.slice loR (fun _ => rfl)) rfl (lv_8 c _ (by decide))) $$ [HO H4]
  · isplitr; · iexact Hc
    isplitl [HO] <;> iassumption
  iintro ⟨HO, H4, H0l⟩
  ihave H0l := (Entails.of_eq (pay4_def m ρ c)) $$ H0l
  ihave H2 := (Cut.join (ℓ := (c : Thread nD τ).loc cc0_scratch2) cut_half) $$ [H2l H2h]
  · isplitl [H2l] <;> iassumption
  ihave H0L := (Cut.join (ℓ := (c : Thread nD τ).loc cc0_scratch0) cut_half) $$ [H0l H0h]
  · isplitl [H0l] <;> iassumption
  ihave H0 := (share_join (ℓ := (c : Thread nD τ).loc cc0_scratch0)) $$ [H0L H0R]
  · isplitl [H0L] <;> iassumption
  iapply (wp_load 𝒱₀ (c : Thread nD τ) none Set.univ (m := fM) (Finset.subset_univ _)) $$ H2; iintro H2
  rw [read_f]
  iapply (wp_load 𝒱₀ (c : Thread nD τ) none Set.univ (m := xM) (Finset.subset_univ _)) $$ Hx; iintro Hx
  rw [read_x]
  iapply (wp_load_rect 𝒱₀ (c : Thread nD τ) none Set.univ (m := rM) (r := tR) (Finset.subset_univ _)) $$ H0; iintro H0
  iapply (wp_store 𝒱₀ (c : Thread nD τ) none Set.univ (m := rM) (r := tR) (Mk := Finset.univ) (Finset.subset_univ _)) $$ H0; iintro H0
  iapply (wp_load_rect 𝒱₀ (c : Thread nD τ) none Set.univ (m := rM) (r := tR) (Finset.subset_univ _)) $$ H0; iintro H0
  rw [View.read_write_univ, wp_ret]; imodintro
  iapply Hk
  isplitl [HO]; · iexact HO
  isplitl [H10]; · iexact H10
  isplitl [H4]; · iexact H4
  isplitl [H2]; · iexact H2
  isplitl [Hx] <;> iassumption

set_option maxHeartbeats 1600000 in
/-- That tile leaves by halves, and the device's maximum lies in its slot. -/
theorem part7 (c : Dev nD) (v2 v36 : BitVec 32) {Q : PUnit → sProp 𝕄} :
    iprop(ctx m ρ ∗ own c 8 ∗ canSend c (dq 13) ∗ canSend c (dq 14) ∗ tok (fr c) (dq 17) ∗ tok (fr c) (dq 18) ∗ some_ (fr c) cc0_stg2_0 (rowS c) ∗ pts c cc0_scratch0 Finset.univ fullShare ((rM.access tR).write (Elt F) (wv m ρ (lf c)) (k0_pay9 (wv m ρ (fr c)) (xv m ρ c)) Finset.univ) ∗ some_ c cc0_scratch8 (slotS c)
        ∗ ((own c 10 ∗ canWait c (dq 13) ∗ canWait c (dq 14) ∗ some_ c cc0_scratch0 (Finset.univ \ (rowS 0 : Finset (Idx ((c : Thread nD τ).loc cc0_scratch0)))) ∗ pts c cc0_scratch8 (slotS c) fullShare (amaxC m ρ)) -∗ Q ⟨⟩))
      ⊢ wp frame (wpE (defs₀ (F := F)) 𝒱₀ (c : Thread nD τ) none) Set.univ (k0_part7 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v36 (amax m ρ c)) Q := by
  rw [k0_part7_eq_skeleton]
  unfold k0_part7_skel
  simp only [semSignalWord, semWaitWord, Prog.lift, Prog.bind_op, Prog.bind_ret, Prog.pure_eq_ret]
  iintro ⟨#Hc, HO, Hs13, Hs14, Ht17, Ht18, Hd, H0, Ha, Hk⟩
  ihave H := (cut_row c).splitSome $$ Hd
  icases H with ⟨⟨%g1, Hdl⟩, ⟨%g2, Hdh⟩⟩
  ihave H := (cut_rest (rowS 0)).split $$ H0
  icases H with ⟨H0t, H0r⟩
  ihave H := (cut_row 0).split $$ H0t
  icases H with ⟨H0l, H0h⟩
  iapply (step_send m ρ c (src := rM.slice uR (fun _ => rfl)) (dst := oM.slice (loRow c) (fun _ => rfl)) (fr c) _ (dev9_eq c) 8 (dq 13) (dq 17) ⟨by decide, by show 13 ≠ _; omega⟩
      ⟨by decide, by show 17 ≠ _; omega⟩ rfl rfl rfl rfl rfl
      (Ss := rowLo 0) (Sd := rowLo c) topLo_set (loRow_set c) (q := fullShare) (fs := (rM.access tR).write (Elt F) (wv m ρ (lf c)) (k0_pay9 (wv m ρ (fr c)) (xv m ρ c)) Finset.univ) (fd := g1) (outRaw m ρ (fr c))
      iprop(emp)
      ((out_half m ρ c (fr c) 0 (by decide) _ (k0_off3_eq c) _).trans ((congrArg (fun w => fun x => w (half 0 (by decide) x)) (tile9 _ _).symm).trans (top_half _ _ 0 (by decide) _ rfl _).symm)) (toSome _) (with_emp (Entails.of_eq (pay17_at m ρ c).symm))) $$ [HO Hs13 Ht17 H0l Hdl]
  · isplitr; · iexact Hc
    isplitl [HO]; · iexact HO
    isplitl [Hs13]; · iexact Hs13
    isplitl [Ht17]; · iexact Ht17
    isplitl [H0l]; · iexact H0l
    isplitl [Hdl]; · iexact Hdl
    iempintro
  iintro ⟨HO, H13⟩
  iapply (step_send m ρ c (src := rM.slice vR (fun _ => rfl)) (dst := oM.slice (hiRow c) (fun _ => rfl)) (fr c) _ (dev10_eq c) 9 (dq 14) (dq 18) ⟨by decide, by show 14 ≠ _; omega⟩
      ⟨by decide, by show 18 ≠ _; omega⟩ rfl rfl rfl rfl rfl
      (Ss := rowHi 0) (Sd := rowHi c) topHi_set (hiRow_set c) (q := fullShare) (fs := (rM.access tR).write (Elt F) (wv m ρ (lf c)) (k0_pay9 (wv m ρ (fr c)) (xv m ρ c)) Finset.univ) (fd := g2) (outRaw m ρ (fr c))
      iprop(emp)
      ((out_half m ρ c (fr c) 256 (by decide) _ (k0_off4_eq c) _).trans ((congrArg (fun w => fun x => w (half 256 (by decide) x)) (tile9 _ _).symm).trans (top_half _ _ 256 (by decide) _ rfl _).symm)) (toSome _) (with_emp (Entails.of_eq (pay18_at m ρ c).symm))) $$ [HO Hs14 Ht18 H0h Hdh]
  · isplitr; · iexact Hc
    isplitl [HO]; · iexact HO
    isplitl [Hs14]; · iexact Hs14
    isplitl [Ht18]; · iexact Ht18
    isplitl [H0h]; · iexact H0h
    isplitl [Hdh]; · iexact Hdh
    iempintro
  iintro ⟨HO, H14⟩
  icases Ha with ⟨%fa, Ha⟩
  iapply (wp_load_rect 𝒱₀ (c : Thread nD τ) none Set.univ (m := aM) (r := slotR c) (by rw [slot_acc])) $$ Ha; iintro Ha
  iapply (wp_store 𝒱₀ (c : Thread nD τ) none Set.univ (m := aM) (r := slotR c) (Mk := Finset.univ) (by rw [← access_set, slot_acc])) $$ Ha; iintro Ha
  ihave Ha := (Entails.of_eq (stored aM (slotR c) fa (amaxC m ρ) _ (slot_acc c) (slot_read m ρ c))) $$ Ha
  rw [wp_ret]; imodintro
  iapply Hk
  ihave H0r := (toSome _) $$ H0r
  isplitl [HO]; · iexact HO
  isplitl [H13]; · iexact H13
  isplitl [H14]; · iexact H14
  isplitl [H0r] <;> iassumption

end Cert.Exchange

end
-- ==== Proof.Maxima.lean ====
/-
# The maxima travel, the tiles arrive

Each device sends its maximum to the other three and waits for the tiles and the maxima that come to it.
-/
module

public import proofs.«01_k».proof.Proof.Tiles

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev slotM (c : Dev nD) : Memref sig .tc .vmem S8x128 .f32 :=
  (aM.slice (Rect.unit (s := S4x8x128) (k0_off7 c) S1x8x128.size (k0_off7_inb c)) (fun _ => rfl)).squeeze S8x128 squeezes_S1x8x128_S8x128

theorem slotM_set (c : Dev nD) : (slotM c).view.set = slotS c := by
  rw [show (slotM c).view.set = ((View.whole cc0_scratch8).slice (Rect.unit (s := S4x8x128) (k0_off7 c) S1x8x128.size (k0_off7_inb c))).set from View.set_reshape _ _]
  exact (View.set_slice_whole cc0_scratch8 _).trans (rect_slot _ c (k0_off7_eq c) _)

theorem sem_off6 (c : Dev nD) : ((cc0_scratch10.slice (Rect.unit (s := S4) (k0_off6 c) S1.size (k0_off6_inb c))).squeeze S_ squeezes_S1_S_).sem = amx c := by
  revert c; decide +kernel
theorem sem_off12_1 (c : Dev nD) : ((cc0_scratch10.slice (Rect.unit (s := S4) (k0_off12 c 1#32) S1.size (k0_off12_inb c 0))).squeeze S_ squeezes_S1_S_).sem = amx (rt c) := by
  revert c; decide +kernel
theorem sem_off12_2 (c : Dev nD) : ((cc0_scratch10.slice (Rect.unit (s := S4) (k0_off12 c 2#32) S1.size (k0_off12_inb c 1))).squeeze S_ squeezes_S1_S_).sem = amx (fr c) := by
  revert c; decide +kernel
theorem sem_off12_3 (c : Dev nD) : ((cc0_scratch10.slice (Rect.unit (s := S4) (k0_off12 c 3#32) S1.size (k0_off12_inb c 2))).squeeze S_ squeezes_S1_S_).sem = amx (lf c) := by
  revert c; decide +kernel

theorem amt_amx (d : Dev nD) : amt (amx d) = crA := by
  revert d
  have h : ∀ d : Dev nD, ¬ ((amx d).val = 3 ∨ (amx d).val = 5 ∨ (amx d).val = 7 ∨ (amx d).val = 9)
      ∧ ¬ ((amx d).val = 4 ∨ (amx d).val = 6 ∨ (amx d).val = 8 ∨ (amx d).val = 10)
      ∧ ¬ ((amx d).val = 11 ∨ (amx d).val = 12 ∨ (amx d).val = 15 ∨ (amx d).val = 16)
      ∧ ¬ ((amx d).val = 13 ∨ (amx d).val = 14 ∨ (amx d).val = 17 ∨ (amx d).val = 18) := by decide
  intro d
  obtain ⟨h1, h2, h3, h4⟩ := h d
  unfold amt
  rw [if_neg h1, if_neg h2, if_neg h3, if_neg h4]

theorem credit_slot (off : Fin 3 → ℕ) (inb) :
    ((aM.slice (Rect.unit (s := S4x8x128) off S1x8x128.size inb) (fun _ => rfl)).squeeze S8x128 squeezes_S1x8x128_S8x128).view.dmaCredit = crA := rfl
theorem credit_amx (off : Fin 3 → ℕ) (inb) (d : Dev nD) :
    ((aM.slice (Rect.unit (s := S4x8x128) off S1x8x128.size inb) (fun _ => rfl)).squeeze S8x128 squeezes_S1x8x128_S8x128).view.dmaCredit = amt (amx d) :=
  (credit_slot off inb).trans (amt_amx d).symm
theorem amt_last (q : DmaSem sig) (h : 19 ≤ q.val) : amt q = crA := by
  unfold amt
  rw [if_neg (by omega), if_neg (by omega), if_neg (by omega), if_neg (by omega)]
theorem amt_send (q : DmaSem sig) (h : 19 ≤ q.val) (d : Dev nD) : amt q = amt (amx d) := (amt_last q h).trans (amt_amx d).symm

theorem amt_15 : amt (dq 15) = crT := rfl
theorem amt_16 : amt (dq 16) = crT := rfl
theorem amt_17 : amt (dq 17) = crU := rfl
theorem amt_18 : amt (dq 18) = crU := rfl
theorem amt_11 : amt (dq 11) = crT := rfl
theorem amt_12 : amt (dq 12) = crT := rfl
theorem amt_13 : amt (dq 13) = crU := rfl
theorem amt_14 : amt (dq 14) = crU := rfl
theorem credit_tile_val (off : Fin 2 → ℕ) (inb) :
    (oM.slice (Rect.unit (s := S4096x512) off S1024x512.size inb) (fun _ => rfl)).view.dmaCredit = sig.dmaCredit .tc (Kind.tc.table .vmem) cc0_stg2_0.idx S1024x512 .f32 := rfl
theorem crT_val : crT = sig.dmaCredit .tc (Kind.tc.table .vmem) cc0_stg2_0.idx S1024x512 .f32 := rfl
theorem credit_part_val (off : Fin 2 → ℕ) (inb) :
    (oM.slice (Rect.unit (s := S4096x512) off S1024x256.size inb) (fun _ => rfl)).view.dmaCredit = sig.dmaCredit .tc (Kind.tc.table .vmem) cc0_stg2_0.idx S1024x256 .f32 := rfl
theorem crU_val : crU = sig.dmaCredit .tc (Kind.tc.table .vmem) cc0_stg2_0.idx S1024x256 .f32 := rfl
/-- What a tile, and half a tile, of the result credits, wherever it lies. -/
theorem credit_tile (off : Fin 2 → ℕ) (inb) :
    (oM.slice (Rect.unit (s := S4096x512) off S1024x512.size inb) (fun _ => rfl)).view.dmaCredit = crT := (credit_tile_val off inb).trans crT_val.symm
theorem credit_part (off : Fin 2 → ℕ) (inb) :
    (oM.slice (Rect.unit (s := S4096x512) off S1024x256.size inb) (fun _ => rfl)).view.dmaCredit = crU := (credit_part_val off inb).trans crU_val.symm

/-- A claim for every answer, at one answer. -/
theorem at_any {α : Type} {P : sProp 𝕄} {Q : α → sProp 𝕄} (v : α) : iprop(P ∗ ∀ v, P -∗ Q v) ⊢ Q v := by
  iintro ⟨HP, Hk⟩
  iapply Hk
  iexact HP

/-- A neighbour's semaphore for another device's maximum is not the one that it never uses. -/
theorem amx_ne {c e : Dev nD} (h : c ≠ e) : 3 ≤ (amx c).val ∧ (amx c).val ≠ 22 + e.val :=
  ⟨by show 3 ≤ 22 + c.val; omega, fun h' => h (Fin.ext (by have h'' : 22 + c.val = 22 + e.val := h'; omega))⟩

theorem left10 (c : Dev nD) : left c 10 = (cell (rt c) (amx c), amt (amx c)) :: left c 11 := rfl
theorem left11 (c : Dev nD) : left c 11 = (cell (fr c) (amx c), amt (amx c)) :: left c 12 := rfl
theorem left12 (c : Dev nD) : left c 12 = (cell (lf c) (amx c), amt (amx c)) :: left c 13 := rfl
theorem sem_19 : (((cc0_scratch9.slice (Rect.unit (s := S3) ![0] S1.size inb_S3_S1_0)).squeeze S_ squeezes_S1_S_).sem : DmaSem sig) = dq 19 := rfl
theorem sem_20 : (((cc0_scratch9.slice (Rect.unit (s := S3) ![1] S1.size inb_S3_S1_1)).squeeze S_ squeezes_S1_S_).sem : DmaSem sig) = dq 20 := rfl
theorem sem_21 : (((cc0_scratch9.slice (Rect.unit (s := S3) ![2] S1.size inb_S3_S1_2)).squeeze S_ squeezes_S1_S_).sem : DmaSem sig) = dq 21 := rfl
theorem pay19_def (c : Dev nD) : dmaPay m ρ c (dq 19).val = pts c cc0_scratch8 (slotS c) qLR (amaxC m ρ) := rfl
theorem pay20_def (c : Dev nD) : dmaPay m ρ c (dq 20).val = pts c cc0_scratch8 (slotS c) qRL (amaxC m ρ) := rfl
theorem pay21_def (c : Dev nD) : dmaPay m ρ c (dq 21).val = pts c cc0_scratch8 (slotS c) qRR (amaxC m ρ) := rfl
theorem pay15_def (c : Dev nD) : dmaPay m ρ c (dq 15).val = pts c cc0_stg2_0 (rowS (lf c)) fullShare (outRaw m ρ c) := rfl
theorem pay16_def (c : Dev nD) : dmaPay m ρ c (dq 16).val = pts c cc0_stg2_0 (rowS (rt c)) fullShare (outRaw m ρ c) := rfl
theorem pay17_def (c : Dev nD) : dmaPay m ρ c (dq 17).val = pts c cc0_stg2_0 (rowLo (fr c)) fullShare (outRaw m ρ c) := rfl
theorem pay18_def (c : Dev nD) : dmaPay m ρ c (dq 18).val = pts c cc0_stg2_0 (rowHi (fr c)) fullShare (outRaw m ρ c) := rfl

set_option maxHeartbeats 1600000 in
/-- The maximum leaves for the right neighbour and for the device opposite. -/
theorem part8 (c : Dev nD) (v2 : BitVec 32) {Q : BitVec 32 → sProp 𝕄} :
    iprop(ctx m ρ ∗ own c 10 ∗ canSend c (dq 19) ∗ canSend c (dq 20) ∗ tok (rt c) (amx c) ∗ tok (fr c) (amx c) ∗ some_ (rt c) cc0_scratch8 (slotS c) ∗ some_ (fr c) cc0_scratch8 (slotS c) ∗ pts c cc0_scratch8 (slotS c) qLR (amaxC m ρ) ∗ pts c cc0_scratch8 (slotS c) qRL (amaxC m ρ)
        ∗ (∀ v250, (own c 12 ∗ canWait c (dq 19) ∗ canWait c (dq 20)) -∗ Q v250))
      ⊢ wp frame (wpE (defs₀ (F := F)) 𝒱₀ (c : Thread nD τ) none) Set.univ (k0_part8 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2) Q := by
  rw [k0_part8_eq_skeleton]
  unfold k0_part8_skel
  simp only [semSignalWord, semWaitWord, Prog.lift, Prog.bind_op, Prog.bind_ret, Prog.pure_eq_ret]
  iintro ⟨#Hc, HO, Hs19, Hs20, Htr, Htf, Hdr, Hdf, Ha1, Ha2, Hk⟩
  icases Hdr with ⟨%g1, Hdr⟩
  icases Hdf with ⟨%g2, Hdf⟩
  iapply (step_send m ρ c (src := slotM c) (dst := slotM c) (rt c) _ (dev11_eq c) 10 (dq 19) (amx c) ⟨by decide, by show 19 ≠ _; omega⟩
      (amx_ne (ring_ne c).2.1) (amt_send (dq 19) (by decide) c) (left10 c) sem_19 (sem_off6 c) (credit_amx _ _ c)
      (Ss := slotS c) (Sd := slotS c) (slotM_set c) (slotM_set c) (q := qLR) (fs := amaxC m ρ) (fd := g1) (amaxC m ρ)
      iprop(emp)
      rfl (Entails.of_eq (pay19_def m ρ c).symm) (with_emp (Entails.of_eq (dmaPay_amx m ρ (rt c) c).symm))) $$ [HO Hs19 Htr Ha1 Hdr]
  · isplitr; · iexact Hc
    isplitl [HO]; · iexact HO
    isplitl [Hs19]; · iexact Hs19
    isplitl [Htr]; · iexact Htr
    isplitl [Ha1]; · iexact Ha1
    isplitl [Hdr]; · iexact Hdr
    iempintro
  iintro ⟨HO, H19⟩
  iapply (step_send m ρ c (src := slotM c) (dst := slotM c) (fr c) _ (dev12_eq c) 11 (dq 20) (amx c) ⟨by decide, by show 20 ≠ _; omega⟩
      (amx_ne (ring_ne c).2.2.1) (amt_send (dq 20) (by decide) c) (left11 c) sem_20 (sem_off6 c) (credit_amx _ _ c)
      (Ss := slotS c) (Sd := slotS c) (slotM_set c) (slotM_set c) (q := qRL) (fs := amaxC m ρ) (fd := g2) (amaxC m ρ)
      iprop(emp)
      rfl (Entails.of_eq (pay20_def m ρ c).symm) (with_emp (Entails.of_eq (dmaPay_amx m ρ (fr c) c).symm))) $$ [HO Hs20 Htf Ha2 Hdf]
  · isplitr; · iexact Hc
    isplitl [HO]; · iexact HO
    isplitl [Hs20]; · iexact Hs20
    isplitl [Htf]; · iexact Htf
    isplitl [Ha2]; · iexact Ha2
    isplitl [Hdf]; · iexact Hdf
    iempintro
  iintro ⟨HO, H20⟩
  rw [wp_ret]; imodintro
  iapply (at_any (P := iprop(own c 12 ∗ canWait c (dq 19) ∗ canWait c (dq 20))) (Q := Q))
  isplitr [Hk]
  · isplitl [HO]; · iexact HO
    isplitl [H19] <;> iassumption
  iexact Hk

set_option maxHeartbeats 1600000 in
/-- The maximum leaves for the left neighbour; both neighbours' tiles are there. -/
theorem part9 (c : Dev nD) (v14 v25 v36 v250 : BitVec 32) {Q : BitVec 32 → sProp 𝕄} :
    iprop(ctx m ρ ∗ own c 12 ∗ canSend c (dq 21) ∗ tok (lf c) (amx c) ∗ some_ (lf c) cc0_scratch8 (slotS c) ∗ pts c cc0_scratch8 (slotS c) qRR (amaxC m ρ) ∗ canWait c (dq 15) ∗ canWait c (dq 16)
        ∗ (∀ v278, (own c 13 ∗ canWait c (dq 21) ∗ spent c (dq 15) ∗ spent c (dq 16) ∗ pts c cc0_stg2_0 (rowS (lf c)) fullShare (outRaw m ρ c) ∗ pts c cc0_stg2_0 (rowS (rt c)) fullShare (outRaw m ρ c)) -∗ Q v278))
      ⊢ wp frame (wpE (defs₀ (F := F)) 𝒱₀ (c : Thread nD τ) none) Set.univ (k0_part9 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v14 v25 v36 v250) Q := by
  rw [k0_part9_eq_skeleton]
  unfold k0_part9_skel
  simp only [semSignalWord, semWaitWord, Prog.lift, Prog.bind_op, Prog.bind_ret, Prog.pure_eq_ret]
  iintro ⟨#Hc, HO, Hs21, Htl, Hdl, Ha, H15, H16, Hk⟩
  icases Hdl with ⟨%g1, Hdl⟩
  iapply (step_send m ρ c (src := slotM c) (dst := slotM c) (lf c) _ (dev13_eq c) 12 (dq 21) (amx c) ⟨by decide, by show 21 ≠ _; omega⟩
      (amx_ne (ring_ne c).1) (amt_send (dq 21) (by decide) c) (left12 c) sem_21 (sem_off6 c) (credit_amx _ _ c)
      (Ss := slotS c) (Sd := slotS c) (slotM_set c) (slotM_set c) (q := qRR) (fs := amaxC m ρ) (fd := g1) (amaxC m ρ)
      iprop(emp)
      rfl (Entails.of_eq (pay21_def m ρ c).symm) (with_emp (Entails.of_eq (dmaPay_amx m ρ (lf c) c).symm))) $$ [HO Hs21 Htl Ha Hdl]
  · isplitr; · iexact Hc
    isplitl [HO]; · iexact HO
    isplitl [Hs21]; · iexact Hs21
    isplitl [Htl]; · iexact Htl
    isplitl [Ha]; · iexact Ha
    isplitl [Hdl]; · iexact Hdl
    iempintro
  iintro ⟨HO, H21⟩
  iapply (step_wait m ρ c 13 (dq 15) ⟨by decide, by show 15 ≠ _; omega⟩ rfl (src := tile0M) (dst := oM.slice (Rect.unit (s := S4096x512) (k0_off8 c) S1024x512.size (k0_off8_inb c)) (fun _ => rfl)) ((credit_tile _ _).trans amt_15.symm) (lv_done c _)) $$ [HO H15]
  · isplitr; · iexact Hc
    isplitl [HO] <;> iassumption
  iintro ⟨HO, H15, Hl⟩
  iapply (step_wait m ρ c 13 (dq 16) ⟨by decide, by show 16 ≠ _; omega⟩ rfl (src := tile0M) (dst := oM.slice (Rect.unit (s := S4096x512) (k0_off9 c) S1024x512.size (k0_off9_inb c)) (fun _ => rfl)) ((credit_tile _ _).trans amt_16.symm) (lv_done c _)) $$ [HO H16]
  · isplitr; · iexact Hc
    isplitl [HO] <;> iassumption
  iintro ⟨HO, H16, Hr⟩
  ihave Hl := (Entails.of_eq (pay15_def m ρ c)) $$ Hl
  ihave Hr := (Entails.of_eq (pay16_def m ρ c)) $$ Hr
  rw [wp_ret]; imodintro
  iapply (at_any (P := iprop(own c 13 ∗ canWait c (dq 21) ∗ spent c (dq 15) ∗ spent c (dq 16) ∗ pts c cc0_stg2_0 (rowS (lf c)) fullShare (outRaw m ρ c) ∗ pts c cc0_stg2_0 (rowS (rt c)) fullShare (outRaw m ρ c))) (Q := Q))
  isplitr [Hk]
  · isplitl [HO]; · iexact HO
    isplitl [H21]; · iexact H21
    isplitl [H15]; · iexact H15
    isplitl [H16]; · iexact H16
    isplitl [Hl] <;> iassumption
  iexact Hk

set_option maxHeartbeats 1600000 in
/-- The opposite device's tile is there. -/
theorem part10 (c : Dev nD) (v2 v36 v278 : BitVec 32) {Q : PUnit → sProp 𝕄} :
    iprop(ctx m ρ ∗ own c 13 ∗ canWait c (dq 17) ∗ canWait c (dq 18)
        ∗ ((own c 13 ∗ spent c (dq 17) ∗ spent c (dq 18) ∗ pts c cc0_stg2_0 (rowS (fr c)) fullShare (outRaw m ρ c)) -∗ Q ⟨⟩))
      ⊢ wp frame (wpE (defs₀ (F := F)) 𝒱₀ (c : Thread nD τ) none) Set.univ (k0_part10 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2 v36 v278) Q := by
  rw [k0_part10_eq_skeleton]
  unfold k0_part10_skel
  simp only [semSignalWord, semWaitWord, Prog.lift, Prog.bind_op, Prog.bind_ret, Prog.pure_eq_ret]
  iintro ⟨#Hc, HO, H17, H18, Hk⟩
  iapply (step_wait m ρ c 13 (dq 17) ⟨by decide, by show 17 ≠ _; omega⟩ rfl (src := _) (dst := oM.slice (Rect.unit (s := S4096x512) (k0_off10 c) S1024x256.size (k0_off10_inb c)) (fun _ => rfl)) ((credit_part _ _).trans amt_17.symm) (lv_done c _)) $$ [HO H17]
  · isplitr; · iexact Hc
    isplitl [HO] <;> iassumption
  iintro ⟨HO, H17, Hl⟩
  iapply (step_wait m ρ c 13 (dq 18) ⟨by decide, by show 18 ≠ _; omega⟩ rfl (src := _) (dst := oM.slice (Rect.unit (s := S4096x512) (k0_off11 c) S1024x256.size (k0_off11_inb c)) (fun _ => rfl)) ((credit_part _ _).trans amt_18.symm) (lv_done c _)) $$ [HO H18]
  · isplitr; · iexact Hc
    isplitl [HO] <;> iassumption
  iintro ⟨HO, H18, Hr⟩
  ihave Hl := (Entails.of_eq (pay17_def m ρ c)) $$ Hl
  ihave Hr := (Entails.of_eq (pay18_def m ρ c)) $$ Hr
  ihave Ho := (Cut.join (ℓ := (c : Thread nD τ).loc cc0_stg2_0) (cut_row (fr c))) $$ [Hl Hr]
  · isplitl [Hl] <;> iassumption
  rw [wp_ret]; imodintro
  iapply Hk
  isplitl [HO]; · iexact HO
  isplitl [H17]; · iexact H17
  isplitl [H18] <;> iassumption

set_option maxHeartbeats 1600000 in
/-- Two of the three maxima are there. -/
theorem part11 (c : Dev nD) (v2 : BitVec 32) {Q : PUnit → sProp 𝕄} :
    iprop(ctx m ρ ∗ own c 13 ∗ canWait c (amx (rt c)) ∗ canWait c (amx (fr c))
        ∗ ((own c 13 ∗ spent c (amx (rt c)) ∗ spent c (amx (fr c)) ∗ pts c cc0_scratch8 (slotS (rt c)) fullShare (amaxC m ρ) ∗ pts c cc0_scratch8 (slotS (fr c)) fullShare (amaxC m ρ)) -∗ Q ⟨⟩))
      ⊢ wp frame (wpE (defs₀ (F := F)) 𝒱₀ (c : Thread nD τ) none) Set.univ (k0_part11 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c v2) Q := by
  rw [k0_part11_eq_skeleton]
  unfold k0_part11_skel
  simp only [semSignalWord, semWaitWord, Prog.lift, Prog.bind_op, Prog.bind_ret, Prog.pure_eq_ret]
  iintro ⟨#Hc, HO, Hr, Hf, Hk⟩
  iapply (step_wait m ρ c 13 (amx (rt c)) (amx_ne (ring_ne c).2.1.symm) (sem_off12_1 c) (src := slotM c)
      (dst := (aM.slice (Rect.unit (s := S4x8x128) (k0_off13 c 1#32) S1x8x128.size (k0_off13_inb c 0)) (fun _ => rfl)).squeeze S8x128 squeezes_S1x8x128_S8x128)
      (credit_amx _ _ (rt c)) (lv_done c _)) $$ [HO Hr]
  · isplitr; · iexact Hc
    isplitl [HO] <;> iassumption
  iintro ⟨HO, Hr, Har⟩
  ihave Har := (Entails.of_eq (dmaPay_amx m ρ c (rt c))) $$ Har
  iapply (step_wait m ρ c 13 (amx (fr c)) (amx_ne (ring_ne c).2.2.1.symm) (sem_off12_2 c) (src := slotM c)
      (dst := (aM.slice (Rect.unit (s := S4x8x128) (k0_off13 c 2#32) S1x8x128.size (k0_off13_inb c 1)) (fun _ => rfl)).squeeze S8x128 squeezes_S1x8x128_S8x128)
      (credit_amx _ _ (fr c)) (lv_done c _)) $$ [HO Hf]
  · isplitr; · iexact Hc
    isplitl [HO] <;> iassumption
  iintro ⟨HO, Hf, Haf⟩
  ihave Haf := (Entails.of_eq (dmaPay_amx m ρ c (fr c))) $$ Haf
  rw [wp_ret]; imodintro
  iapply Hk
  isplitl [HO]; · iexact HO
  isplitl [Hr]; · iexact Hr
  isplitl [Hf]; · iexact Hf
  isplitl [Har] <;> iassumption

end Cert.Exchange

end
-- ==== Proof.Finish.lean ====
/-
# The result is put through the quantiser, and what was lent comes back

With all four maxima there, each block of rows of the result is quantised in place; the waits on the sending cells give
back everything that the transfers read.
-/
module

public import proofs.«01_k».proof.Proof.Maxima

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

abbrev rowR0 : Rect S4096x512 := Rect.unit (s := S4096x512) ![0, 0] S1024x512.size inb_S4096x512_S1024x512_0_0
abbrev rowR1 : Rect S4096x512 := Rect.unit (s := S4096x512) ![1024, 0] S1024x512.size inb_S4096x512_S1024x512_1024_0
abbrev rowR2 : Rect S4096x512 := Rect.unit (s := S4096x512) ![2048, 0] S1024x512.size inb_S4096x512_S1024x512_2048_0
abbrev rowR3 : Rect S4096x512 := Rect.unit (s := S4096x512) ![3072, 0] S1024x512.size inb_S4096x512_S1024x512_3072_0

theorem acc0 : (oM.access rowR0).set = rowS 0 := out_row _ 0 rfl _
theorem acc1 : (oM.access rowR1).set = rowS 1 := out_row _ 1 rfl _
theorem acc2 : (oM.access rowR2).set = rowS 2 := out_row _ 2 rfl _
theorem acc3 : (oM.access rowR3).set = rowS 3 := out_row _ 3 rfl _
theorem read0 (G : Vec F S4096x512 .f32) : (oM.access rowR0).read (Elt F) G = fun x => G (rin 0 x) := read_out_row _ 0 rfl _ G
theorem read1 (G : Vec F S4096x512 .f32) : (oM.access rowR1).read (Elt F) G = fun x => G (rin 1 x) := read_out_row _ 1 rfl _ G
theorem read2 (G : Vec F S4096x512 .f32) : (oM.access rowR2).read (Elt F) G = fun x => G (rin 2 x) := read_out_row _ 2 rfl _ G
theorem read3 (G : Vec F S4096x512 .f32) : (oM.access rowR3).read (Elt F) G = fun x => G (rin 3 x) := read_out_row _ 3 rfl _ G

/-- The result over one block of rows is that block, quantised. -/
theorem fin_row (c d : Dev nD) :
    (fun x => outFin m ρ c (rin d x)) = k0_pay13 (amaxC m ρ) (fun x => outRaw m ρ c (rin d x)) := by
  funext x
  unfold outFin
  rw [rdev_rin, ridx_rin]

theorem quant1 (a : Vec F S4x8x128 .f32) (v : Vec F S1024x512 .f32) : k0_pay14 a v = k0_pay13 a v := rfl
theorem quant2 (a : Vec F S4x8x128 .f32) (v : Vec F S1024x512 .f32) : k0_pay15 (k0_pay12 a) v = k0_pay13 a v := rfl
theorem quant3 (a : Vec F S4x8x128 .f32) (v : Vec F S1024x512 .f32) : k0_pay16 (k0_pay12 a) v = k0_pay13 a v := rfl

section Lend
variable {ℓ : Loc nD τ sig} {S : Finset (Idx ℓ)} {f : Buf (Elt F) ℓ}
/-- A quarter share set aside, and put back. -/
theorem lend : (ℓ ↦[S]{fullShare} f : sProp 𝕄) ⊢ iprop((ℓ ↦[S]{qLL} f) ∗ (ℓ ↦[S]{qLR} f) ∗ ℓ ↦[S]{qR} f) := by
  iintro H
  ihave H := share_split $$ H
  icases H with ⟨HL, HR⟩
  ihave HL := share_split $$ HL
  icases HL with ⟨H1, H2⟩
  isplitl [H1]; · iexact H1
  isplitl [H2] <;> iassumption
theorem unlend : iprop((ℓ ↦[S]{qLL} f) ∗ (ℓ ↦[S]{qLR} f) ∗ ℓ ↦[S]{qR} f) ⊢ (ℓ ↦[S]{fullShare} f : sProp 𝕄) := by
  iintro ⟨H1, H2, H3⟩
  iapply (share_join (ℓ := ℓ))
  isplitl [H1 H2]
  · iapply (share_join (ℓ := ℓ))
    isplitl [H1] <;> iassumption
  iexact H3
end Lend

theorem pay3_def (c : Dev nD) : dmaPay m ρ c (dq 3).val = pts c cc0_stg1_0 Finset.univ qL (wv m ρ c) := rfl
theorem pay5_def (c : Dev nD) : dmaPay m ρ c (dq 5).val = pts c cc0_stg1_0 Finset.univ qRL (wv m ρ c) := rfl
theorem pay6_def (c : Dev nD) : dmaPay m ρ c (dq 6).val = pts c cc0_scratch1 hiS qL (wv m ρ (rt c)) := rfl
theorem pay11_def (c : Dev nD) : dmaPay m ρ c (dq 11).val = some_ c cc0_scratch3 (tileS 0) := rfl
theorem pay12_def (c : Dev nD) : dmaPay m ρ c (dq 12).val = some_ c cc0_scratch3 (tileS 1) := rfl
theorem pay13_def (c : Dev nD) : dmaPay m ρ c (dq 13).val = some_ c cc0_scratch0 (rowLo 0) := rfl
theorem pay14_def (c : Dev nD) : dmaPay m ρ c (dq 14).val = some_ c cc0_scratch0 (rowHi 0) := rfl
theorem credit_19 (c : Dev nD) : (slotM c).view.dmaCredit = amt (dq 19) := (credit_slot _ _).trans (amt_last _ (by decide)).symm
theorem credit_20 (c : Dev nD) : (slotM c).view.dmaCredit = amt (dq 20) := (credit_slot _ _).trans (amt_last _ (by decide)).symm
theorem credit_21 (c : Dev nD) : (slotM c).view.dmaCredit = amt (dq 21) := (credit_slot _ _).trans (amt_last _ (by decide)).symm

set_option maxHeartbeats 1600000 in
/-- The last maximum is there, and the first block of rows is quantised. -/
theorem part12 (c : Dev nD)  {Q : (Σ' (v355 : F .f32), FVec F S1024x512 .f32) → sProp 𝕄} :
    iprop(ctx m ρ ∗ own c 13 ∗ canWait c (amx (lf c)) ∗ pts c cc0_scratch8 (slotS c) qLL (amaxC m ρ) ∗ pts c cc0_scratch8 (slotS (rt c)) fullShare (amaxC m ρ) ∗ pts c cc0_scratch8 (slotS (fr c)) fullShare (amaxC m ρ) ∗ pts c cc0_stg2_0 (rowS c) fullShare (outRaw m ρ c) ∗ pts c cc0_stg2_0 (rowS (lf c)) fullShare (outRaw m ρ c) ∗ pts c cc0_stg2_0 (rowS (rt c)) fullShare (outRaw m ρ c) ∗ pts c cc0_stg2_0 (rowS (fr c)) fullShare (outRaw m ρ c)
        ∗ ((own c 13 ∗ spent c (amx (lf c)) ∗ pts c cc0_scratch8 (slotS c) qLL (amaxC m ρ) ∗ pts c cc0_scratch8 (slotS (lf c)) fullShare (amaxC m ρ) ∗ pts c cc0_scratch8 (slotS (rt c)) fullShare (amaxC m ρ) ∗ pts c cc0_scratch8 (slotS (fr c)) fullShare (amaxC m ρ) ∗ pts c cc0_stg2_0 (rowS 0) fullShare (outFin m ρ c) ∗ pts c cc0_stg2_0 (rowS 1) fullShare (outRaw m ρ c) ∗ pts c cc0_stg2_0 (rowS 2) fullShare (outRaw m ρ c) ∗ pts c cc0_stg2_0 (rowS 3) fullShare (outRaw m ρ c)) -∗ Q ⟨k0_pay12 (amaxC m ρ), k0_pay14 (amaxC m ρ) (fun x => outRaw m ρ c (rin 1 x))⟩))
      ⊢ wp frame (wpE (defs₀ (F := F)) 𝒱₀ (c : Thread nD τ) none) Set.univ (k0_part12 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c) Q := by
  rw [k0_part12_eq_skeleton]
  unfold k0_part12_skel
  simp only [semSignalWord, semWaitWord, Prog.lift, Prog.bind_op, Prog.bind_ret, Prog.pure_eq_ret]
  iintro ⟨#Hc, HO, Hw, Hac, Har, Haf, Hoc, Hol, Hor, Hof, Hk⟩
  iapply (step_wait m ρ c 13 (amx (lf c)) (amx_ne (ring_ne c).1.symm) (sem_off12_3 c) (src := slotM c)
      (dst := (aM.slice (Rect.unit (s := S4x8x128) (k0_off13 c 3#32) S1x8x128.size (k0_off13_inb c 2)) (fun _ => rfl)).squeeze S8x128 squeezes_S1x8x128_S8x128)
      (credit_amx _ _ (lf c)) (lv_done c _)) $$ [HO Hw]
  · isplitr; · iexact Hc
    isplitl [HO] <;> iassumption
  iintro ⟨HO, Hw, Hal⟩
  ihave Hal := (Entails.of_eq (dmaPay_amx m ρ c (lf c))) $$ Hal
  ihave Hal := lend $$ Hal
  icases Hal with ⟨Hal, Hal2, Hal3⟩
  ihave Har := lend $$ Har
  icases Har with ⟨Har, Har2, Har3⟩
  ihave Haf := lend $$ Haf
  icases Haf with ⟨Haf, Haf2, Haf3⟩
  ihave Ha := (join4 (ℓ := (c : Thread nD τ).loc cc0_scratch8) quarter_slots (ring_ne c)) $$ [Hac Hal Har Haf]
  · isplitl [Hac]; · iexact Hac
    isplitl [Hal]; · iexact Hal
    isplitl [Har] <;> iassumption
  ihave Ho := (join4 (ℓ := (c : Thread nD τ).loc cc0_stg2_0) quarter_rows (ring_ne c)) $$ [Hoc Hol Hor Hof]
  · isplitl [Hoc]; · iexact Hoc
    isplitl [Hol]; · iexact Hol
    isplitl [Hor] <;> iassumption
  ihave Ho := (split4 (ℓ := (c : Thread nD τ).loc cc0_stg2_0) quarter_rows order_ne) $$ Ho
  icases Ho with ⟨Ho0, Ho1, Ho2, Ho3⟩
  iapply (wp_load 𝒱₀ (c : Thread nD τ) none Set.univ (m := aM) (Finset.subset_univ _)) $$ Ha; iintro Ha
  rw [read_a]
  ihave Ha := (split4 (ℓ := (c : Thread nD τ).loc cc0_scratch8) quarter_slots (ring_ne c)) $$ Ha
  icases Ha with ⟨Hac, Hal, Har, Haf⟩
  ihave Hal := (unlend (ℓ := (c : Thread nD τ).loc cc0_scratch8)) $$ [Hal Hal2 Hal3]
  · isplitl [Hal]; · iexact Hal
    isplitl [Hal2] <;> iassumption
  ihave Har := (unlend (ℓ := (c : Thread nD τ).loc cc0_scratch8)) $$ [Har Har2 Har3]
  · isplitl [Har]; · iexact Har
    isplitl [Har2] <;> iassumption
  ihave Haf := (unlend (ℓ := (c : Thread nD τ).loc cc0_scratch8)) $$ [Haf Haf2 Haf3]
  · isplitl [Haf]; · iexact Haf
    isplitl [Haf2] <;> iassumption
  iapply (wp_load_rect 𝒱₀ (c : Thread nD τ) none Set.univ (m := oM) (r := rowR0) (by rw [acc0])) $$ Ho0; iintro Ho0
  iapply (wp_load_rect 𝒱₀ (c : Thread nD τ) none Set.univ (m := oM) (r := rowR0) (by rw [acc0])) $$ Ho0; iintro Ho0
  rw [read0]
  iapply (wp_store 𝒱₀ (c : Thread nD τ) none Set.univ (m := oM) (r := rowR0) (Mk := Finset.univ) (by rw [← access_set, acc0])) $$ Ho0; iintro Ho0
  ihave Ho0 := (Entails.of_eq (stored oM rowR0 (outRaw m ρ c) (outFin m ρ c) _ acc0 ((read0 (outFin m ρ c)).trans ((fin_row m ρ c 0))))) $$ Ho0
  iapply (wp_load_rect 𝒱₀ (c : Thread nD τ) none Set.univ (m := oM) (r := rowR1) (by rw [acc1])) $$ Ho1; iintro Ho1
  rw [read1, wp_ret]; imodintro
  iapply Hk
  isplitl [HO]; · iexact HO
  isplitl [Hw]; · iexact Hw
  isplitl [Hac]; · iexact Hac
  isplitl [Hal]; · iexact Hal
  isplitl [Har]; · iexact Har
  isplitl [Haf]; · iexact Haf
  isplitl [Ho0]; · iexact Ho0
  isplitl [Ho1]; · iexact Ho1
  isplitl [Ho2] <;> iassumption

set_option maxHeartbeats 1600000 in
/-- The other blocks are quantised; the device's own columns come back. -/
theorem part13 (c : Dev nD)  {Q : PUnit → sProp 𝕄} :
    iprop(ctx m ρ ∗ own c 13 ∗ pts c cc0_stg2_0 (rowS 1) fullShare (outRaw m ρ c) ∗ pts c cc0_stg2_0 (rowS 2) fullShare (outRaw m ρ c) ∗ pts c cc0_stg2_0 (rowS 3) fullShare (outRaw m ρ c) ∗ canWait c (dq 3) ∗ canWait c (dq 5)
        ∗ ((own c 13 ∗ pts c cc0_stg2_0 (rowS 1) fullShare (outFin m ρ c) ∗ pts c cc0_stg2_0 (rowS 2) fullShare (outFin m ρ c) ∗ pts c cc0_stg2_0 (rowS 3) fullShare (outFin m ρ c) ∗ spent c (dq 3) ∗ spent c (dq 5) ∗ pts c cc0_stg1_0 Finset.univ qL (wv m ρ c) ∗ pts c cc0_stg1_0 Finset.univ qRL (wv m ρ c)) -∗ Q ⟨⟩))
      ⊢ wp frame (wpE (defs₀ (F := F)) 𝒱₀ (c : Thread nD τ) none) Set.univ (k0_part13 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 (k0_pay12 (amaxC m ρ)) (k0_pay14 (amaxC m ρ) (fun x => outRaw m ρ c (rin 1 x)))) Q := by
  rw [k0_part13_eq_skeleton]
  unfold k0_part13_skel
  simp only [semSignalWord, semWaitWord, Prog.lift, Prog.bind_op, Prog.bind_ret, Prog.pure_eq_ret]
  iintro ⟨#Hc, HO, Ho1, Ho2, Ho3, H3, H5, Hk⟩
  iapply (wp_load_rect 𝒱₀ (c : Thread nD τ) none Set.univ (m := oM) (r := rowR1) (by rw [acc1])) $$ Ho1; iintro Ho1
  iapply (wp_store 𝒱₀ (c : Thread nD τ) none Set.univ (m := oM) (r := rowR1) (Mk := Finset.univ) (by rw [← access_set, acc1])) $$ Ho1; iintro Ho1
  ihave Ho1 := (Entails.of_eq (stored oM rowR1 (outRaw m ρ c) (outFin m ρ c) _ acc1 ((read1 (outFin m ρ c)).trans ((fin_row m ρ c 1).trans (quant1 (amaxC m ρ) _).symm)))) $$ Ho1
  iapply (wp_load_rect 𝒱₀ (c : Thread nD τ) none Set.univ (m := oM) (r := rowR2) (by rw [acc2])) $$ Ho2; iintro Ho2
  iapply (wp_load_rect 𝒱₀ (c : Thread nD τ) none Set.univ (m := oM) (r := rowR2) (by rw [acc2])) $$ Ho2; iintro Ho2
  rw [read2]
  iapply (wp_store 𝒱₀ (c : Thread nD τ) none Set.univ (m := oM) (r := rowR2) (Mk := Finset.univ) (by rw [← access_set, acc2])) $$ Ho2; iintro Ho2
  ihave Ho2 := (Entails.of_eq (stored oM rowR2 (outRaw m ρ c) (outFin m ρ c) _ acc2 ((read2 (outFin m ρ c)).trans ((fin_row m ρ c 2).trans (quant2 (amaxC m ρ) _).symm)))) $$ Ho2
  iapply (wp_load_rect 𝒱₀ (c : Thread nD τ) none Set.univ (m := oM) (r := rowR3) (by rw [acc3])) $$ Ho3; iintro Ho3
  iapply (wp_load_rect 𝒱₀ (c : Thread nD τ) none Set.univ (m := oM) (r := rowR3) (by rw [acc3])) $$ Ho3; iintro Ho3
  rw [read3]
  iapply (wp_store 𝒱₀ (c : Thread nD τ) none Set.univ (m := oM) (r := rowR3) (Mk := Finset.univ) (by rw [← access_set, acc3])) $$ Ho3; iintro Ho3
  ihave Ho3 := (Entails.of_eq (stored oM rowR3 (outRaw m ρ c) (outFin m ρ c) _ acc3 ((read3 (outFin m ρ c)).trans ((fin_row m ρ c 3).trans (quant3 (amaxC m ρ) _).symm)))) $$ Ho3
  iapply (step_wait m ρ c 13 (dq 3) ⟨by decide, by show 3 ≠ _; omega⟩ rfl (src := rM) (dst := wM) rfl (lv_done c _)) $$ [HO H3]
  · isplitr; · iexact Hc
    isplitl [HO] <;> iassumption
  iintro ⟨HO, H3, Hw1⟩
  iapply (step_wait m ρ c 13 (dq 5) ⟨by decide, by show 5 ≠ _; omega⟩ rfl (src := lM) (dst := wM) rfl (lv_done c _)) $$ [HO H5]
  · isplitr; · iexact Hc
    isplitl [HO] <;> iassumption
  iintro ⟨HO, H5, Hw2⟩
  ihave Hw1 := (Entails.of_eq (pay3_def m ρ c)) $$ Hw1
  ihave Hw2 := (Entails.of_eq (pay5_def m ρ c)) $$ Hw2
  rw [wp_ret]; imodintro
  iapply Hk
  isplitl [HO]; · iexact HO
  isplitl [Ho1]; · iexact Ho1
  isplitl [Ho2]; · iexact Ho2
  isplitl [Ho3]; · iexact Ho3
  isplitl [H3]; · iexact H3
  isplitl [H5]; · iexact H5
  isplitl [Hw1] <;> iassumption

set_option maxHeartbeats 1600000 in
/-- What the sends of columns and tiles read comes back. -/
theorem part14 (c : Dev nD)  {Q : PUnit → sProp 𝕄} :
    iprop(ctx m ρ ∗ own c 13 ∗ canWait c (dq 6) ∗ canWait c (dq 11) ∗ canWait c (dq 12) ∗ canWait c (dq 13) ∗ canWait c (dq 14)
        ∗ ((own c 13 ∗ spent c (dq 6) ∗ spent c (dq 11) ∗ spent c (dq 12) ∗ spent c (dq 13) ∗ spent c (dq 14) ∗ pts c cc0_scratch1 hiS qL (wv m ρ (rt c)) ∗ some_ c cc0_scratch3 (tileS 0) ∗ some_ c cc0_scratch3 (tileS 1) ∗ some_ c cc0_scratch0 (rowLo 0) ∗ some_ c cc0_scratch0 (rowHi 0)) -∗ Q ⟨⟩))
      ⊢ wp frame (wpE (defs₀ (F := F)) 𝒱₀ (c : Thread nD τ) none) Set.univ (k0_part14 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10 c) Q := by
  rw [k0_part14_eq_skeleton]
  unfold k0_part14_skel
  simp only [semSignalWord, semWaitWord, Prog.lift, Prog.bind_op, Prog.bind_ret, Prog.pure_eq_ret]
  iintro ⟨#Hc, HO, H6, H11, H12, H13, H14, Hk⟩
  iapply (step_wait m ρ c 13 (dq 6) ⟨by decide, by show 6 ≠ _; omega⟩ rfl (src := fM.slice hiR (fun _ => rfl)) (dst := lM.slice hiR (fun _ => rfl)) rfl (lv_done c _)) $$ [HO H6]
  · isplitr; · iexact Hc
    isplitl [HO] <;> iassumption
  iintro ⟨HO, H6, Hp6⟩
  ihave Hp6 := (Entails.of_eq (pay6_def m ρ c)) $$ Hp6
  iapply (step_wait m ρ c 13 (dq 11) ⟨by decide, by show 11 ≠ _; omega⟩ rfl (src := oM.slice (sendRow c) (fun _ => rfl)) (dst := tile0M) rfl (lv_done c _)) $$ [HO H11]
  · isplitr; · iexact Hc
    isplitl [HO] <;> iassumption
  iintro ⟨HO, H11, Hp11⟩
  ihave Hp11 := (Entails.of_eq (pay11_def m ρ c)) $$ Hp11
  iapply (step_wait m ρ c 13 (dq 12) ⟨by decide, by show 12 ≠ _; omega⟩ rfl (src := oM.slice (sendRow c) (fun _ => rfl)) (dst := tile1M) rfl (lv_done c _)) $$ [HO H12]
  · isplitr; · iexact Hc
    isplitl [HO] <;> iassumption
  iintro ⟨HO, H12, Hp12⟩
  ihave Hp12 := (Entails.of_eq (pay12_def m ρ c)) $$ Hp12
  iapply (step_wait m ρ c 13 (dq 13) ⟨by decide, by show 13 ≠ _; omega⟩ rfl (src := oM.slice (loRow c) (fun _ => rfl)) (dst := rM.slice uR (fun _ => rfl)) rfl (lv_done c _)) $$ [HO H13]
  · isplitr; · iexact Hc
    isplitl [HO] <;> iassumption
  iintro ⟨HO, H13, Hp13⟩
  ihave Hp13 := (Entails.of_eq (pay13_def m ρ c)) $$ Hp13
  iapply (step_wait m ρ c 13 (dq 14) ⟨by decide, by show 14 ≠ _; omega⟩ rfl (src := oM.slice (hiRow c) (fun _ => rfl)) (dst := rM.slice vR (fun _ => rfl)) rfl (lv_done c _)) $$ [HO H14]
  · isplitr; · iexact Hc
    isplitl [HO] <;> iassumption
  iintro ⟨HO, H14, Hp14⟩
  ihave Hp14 := (Entails.of_eq (pay14_def m ρ c)) $$ Hp14
  rw [wp_ret]; imodintro
  iapply Hk
  isplitl [HO]; · iexact HO
  isplitl [H6]; · iexact H6
  isplitl [H11]; · iexact H11
  isplitl [H12]; · iexact H12
  isplitl [H13]; · iexact H13
  isplitl [H14]; · iexact H14
  isplitl [Hp6]; · iexact Hp6
  isplitl [Hp11]; · iexact Hp11
  isplitl [Hp12]; · iexact Hp12
  isplitl [Hp13] <;> iassumption

/-- The wait on a sending cell for the maximum. -/
theorem wait_own (c : Dev nD) (q : DmaSem sig) (hq : 3 ≤ q.val ∧ q.val ≠ 22 + c.val) {sem : DmaSem sig} (hs : sem = q)
    (hN : (slotM c).view.dmaCredit = amt q) {hsrc : (slotM c).view.WordExact} {hdst : (slotM c).view.WordExact}
    {α : Type} {Q : α → sProp 𝕄} {kk : PUnit → Prog (TpuEff nD τ sig (Elt F) Λ₀ .tc) α} :
    iprop(ctx m ρ ∗ own c 13 ∗ canWait c q)
      ⊢ iprop(((own c 13 ∗ spent c q ∗ dmaPay m ρ c q.val) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem (slotM c) (slotM c) hsrc hdst) kk) Q) :=
  step_wait m ρ c 13 q hq hs (src := slotM c) (dst := slotM c) hN (lv_done c _)

end Cert.Exchange

end
-- ==== Proof.Body.lean ====
/-
# The body on one device

The fourteen parts of the body and its last three waits, one after the other, on a device `c` left open. The device starts
with its own memory, the right to pay its neighbours' cells and to wait on its own; it ends with its memory whole again,
the result in place, and every cell at zero.

-/
module

public import proofs.«01_k».proof.Proof.Finish

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- What device `c` starts with besides its memory. -/
def ghosts (c : Dev nD) : sProp 𝕄 :=
  iprop(dutyTok ER (barCell (lf c)) 0 true
    ∗ dutyTok ER (barCell (rt c)) 0 false
    ∗ cred (tallyAt (barCell c) () 2)
    ∗ atPos ER (barCell c) 0 ∅ 0
    ∗ canSend c (dq 3)
    ∗ canSend c (dq 4)
    ∗ canSend c (dq 5)
    ∗ canSend c (dq 6)
    ∗ canSend c (dq 11)
    ∗ canSend c (dq 12)
    ∗ canSend c (dq 13)
    ∗ canSend c (dq 14)
    ∗ canSend c (dq 19)
    ∗ canSend c (dq 20)
    ∗ canSend c (dq 21)
    ∗ canWait c (dq 7)
    ∗ canWait c (dq 8)
    ∗ canWait c (dq 9)
    ∗ canWait c (dq 10)
    ∗ canWait c (dq 15)
    ∗ canWait c (dq 16)
    ∗ canWait c (dq 17)
    ∗ canWait c (dq 18)
    ∗ canWait c (amx (rt c))
    ∗ canWait c (amx (fr c))
    ∗ canWait c (amx (lf c))
    ∗ fresh c (amx c)
    ∗ tok (rt c) (dq 7)
    ∗ tok (lf c) (dq 9)
    ∗ tok (rt c) (dq 8)
    ∗ tok (lf c) (dq 10)
    ∗ tok (lf c) (dq 16)
    ∗ tok (rt c) (dq 15)
    ∗ tok (fr c) (dq 17)
    ∗ tok (fr c) (dq 18)
    ∗ tok (rt c) (amx c)
    ∗ tok (fr c) (amx c)
    ∗ tok (lf c) (amx c))

/-- Device `c`'s memory before the body, and after it. -/
def mem₀ (c : Dev nD) : sProp 𝕄 :=
  iprop(pts c cc0_stg0_0 Finset.univ fullShare (xv m ρ c)
    ∗ pts c cc0_stg1_0 Finset.univ fullShare (wv m ρ c)
    ∗ some_ c cc0_stg2_0 Finset.univ
    ∗ some_ c cc0_scratch0 Finset.univ
    ∗ some_ c cc0_scratch1 Finset.univ
    ∗ some_ c cc0_scratch2 Finset.univ
    ∗ some_ c cc0_scratch3 Finset.univ
    ∗ some_ c cc0_scratch8 Finset.univ)
def mem₁ (c : Dev nD) : sProp 𝕄 :=
  iprop(pts c cc0_stg0_0 Finset.univ fullShare (xv m ρ c)
    ∗ pts c cc0_stg1_0 Finset.univ fullShare (wv m ρ c)
    ∗ pts c cc0_stg2_0 Finset.univ fullShare (outFin m ρ c)
    ∗ some_ c cc0_scratch0 Finset.univ
    ∗ some_ c cc0_scratch1 Finset.univ
    ∗ some_ c cc0_scratch2 Finset.univ
    ∗ some_ c cc0_scratch3 Finset.univ
    ∗ some_ c cc0_scratch8 Finset.univ)

/-- Where device `c` stands on its cells after the body. -/
def atEnd (c : Dev nD) : sProp 𝕄 :=
  iprop(atPos ER (barCell c) (0 + 1) ∅ 0
    ∗ spent c (dq 3)
    ∗ spent c (dq 4)
    ∗ spent c (dq 5)
    ∗ spent c (dq 6)
    ∗ spent c (dq 7)
    ∗ spent c (dq 8)
    ∗ spent c (dq 9)
    ∗ spent c (dq 10)
    ∗ spent c (dq 11)
    ∗ spent c (dq 12)
    ∗ spent c (dq 13)
    ∗ spent c (dq 14)
    ∗ spent c (dq 15)
    ∗ spent c (dq 16)
    ∗ spent c (dq 17)
    ∗ spent c (dq 18)
    ∗ spent c (dq 19)
    ∗ spent c (dq 20)
    ∗ spent c (dq 21)
    ∗ fresh c (amx c)
    ∗ spent c (amx (lf c))
    ∗ spent c (amx (rt c))
    ∗ spent c (amx (fr c)))

/-- Device `c`'s cells at zero. -/
def sems (c : Dev nD) : sProp 𝕄 :=
  iprop(semVal (barCell c) 0
    ∗ semVal (cell c (dq 3)) 0
    ∗ semVal (cell c (dq 4)) 0
    ∗ semVal (cell c (dq 5)) 0
    ∗ semVal (cell c (dq 6)) 0
    ∗ semVal (cell c (dq 7)) 0
    ∗ semVal (cell c (dq 8)) 0
    ∗ semVal (cell c (dq 9)) 0
    ∗ semVal (cell c (dq 10)) 0
    ∗ semVal (cell c (dq 11)) 0
    ∗ semVal (cell c (dq 12)) 0
    ∗ semVal (cell c (dq 13)) 0
    ∗ semVal (cell c (dq 14)) 0
    ∗ semVal (cell c (dq 15)) 0
    ∗ semVal (cell c (dq 16)) 0
    ∗ semVal (cell c (dq 17)) 0
    ∗ semVal (cell c (dq 18)) 0
    ∗ semVal (cell c (dq 19)) 0
    ∗ semVal (cell c (dq 20)) 0
    ∗ semVal (cell c (dq 21)) 0
    ∗ semVal (cell c (dq 22)) 0
    ∗ semVal (cell c (dq 23)) 0
    ∗ semVal (cell c (dq 24)) 0
    ∗ semVal (cell c (dq 25)) 0)

/-- The devices in the order seen from `c` are the devices in order. -/
theorem ring_order (Φ : Dev nD → sProp 𝕄) (c : Dev nD) :
    iprop(Φ c ∗ Φ (lf c) ∗ Φ (rt c) ∗ Φ (fr c)) = iprop(Φ (0 : Fin 4) ∗ Φ (1 : Fin 4) ∗ Φ (2 : Fin 4) ∗ Φ (3 : Fin 4)) := by
  have h1 := bigSep_univ_eq_bigSepL [c, lf c, rt c, fr c] (by revert c; decide) (by revert c; decide) Φ
  have h2 := bigSep_univ_eq_bigSepL (I := Dev nD) [(0 : Fin 4), (1 : Fin 4), (2 : Fin 4), (3 : Fin 4)] (by decide) (by decide) Φ
  exact h1.symm.trans h2

/-- A cell that is done with is at zero. -/
theorem close_all (c : Dev nD) : iprop(ctx m ρ ∗ atEnd c) ⊢ |={Set.univ}=> sems (F := F) c := by
  unfold atEnd
  iintro ⟨#Hc, HB, H3, H4, H5, H6, H7, H8, H9, H10, H11, H12, H13, H14, H15, H16, H17, H18, H19, H20, H21, Ho, Hl, Hr, Hf⟩
  imod (close_bar m ρ c) $$ [HB] with HB
  · isplitr; · iexact Hc
    iexact HB
  imod (close_dma m ρ c (dq 3) (by decide)) $$ [H3] with H3
  · isplitr; · iexact Hc
    iexact H3
  imod (close_dma m ρ c (dq 4) (by decide)) $$ [H4] with H4
  · isplitr; · iexact Hc
    iexact H4
  imod (close_dma m ρ c (dq 5) (by decide)) $$ [H5] with H5
  · isplitr; · iexact Hc
    iexact H5
  imod (close_dma m ρ c (dq 6) (by decide)) $$ [H6] with H6
  · isplitr; · iexact Hc
    iexact H6
  imod (close_dma m ρ c (dq 7) (by decide)) $$ [H7] with H7
  · isplitr; · iexact Hc
    iexact H7
  imod (close_dma m ρ c (dq 8) (by decide)) $$ [H8] with H8
  · isplitr; · iexact Hc
    iexact H8
  imod (close_dma m ρ c (dq 9) (by decide)) $$ [H9] with H9
  · isplitr; · iexact Hc
    iexact H9
  imod (close_dma m ρ c (dq 10) (by decide)) $$ [H10] with H10
  · isplitr; · iexact Hc
    iexact H10
  imod (close_dma m ρ c (dq 11) (by decide)) $$ [H11] with H11
  · isplitr; · iexact Hc
    iexact H11
  imod (close_dma m ρ c (dq 12) (by decide)) $$ [H12] with H12
  · isplitr; · iexact Hc
    iexact H12
  imod (close_dma m ρ c (dq 13) (by decide)) $$ [H13] with H13
  · isplitr; · iexact Hc
    iexact H13
  imod (close_dma m ρ c (dq 14) (by decide)) $$ [H14] with H14
  · isplitr; · iexact Hc
    iexact H14
  imod (close_dma m ρ c (dq 15) (by decide)) $$ [H15] with H15
  · isplitr; · iexact Hc
    iexact H15
  imod (close_dma m ρ c (dq 16) (by decide)) $$ [H16] with H16
  · isplitr; · iexact Hc
    iexact H16
  imod (close_dma m ρ c (dq 17) (by decide)) $$ [H17] with H17
  · isplitr; · iexact Hc
    iexact H17
  imod (close_dma m ρ c (dq 18) (by decide)) $$ [H18] with H18
  · isplitr; · iexact Hc
    iexact H18
  imod (close_dma m ρ c (dq 19) (by decide)) $$ [H19] with H19
  · isplitr; · iexact Hc
    iexact H19
  imod (close_dma m ρ c (dq 20) (by decide)) $$ [H20] with H20
  · isplitr; · iexact Hc
    iexact H20
  imod (close_dma m ρ c (dq 21) (by decide)) $$ [H21] with H21
  · isplitr; · iexact Hc
    iexact H21
  imod (close_dma m ρ c (amx (lf c)) (Nat.le_add_right_of_le (by decide))) $$ [Hl] with Hl
  · isplitr; · iexact Hc
    iexact Hl
  imod (close_dma m ρ c (amx (rt c)) (Nat.le_add_right_of_le (by decide))) $$ [Hr] with Hr
  · isplitr; · iexact Hc
    iexact Hr
  imod (close_dma m ρ c (amx (fr c)) (Nat.le_add_right_of_le (by decide))) $$ [Hf] with Hf
  · isplitr; · iexact Hc
    iexact Hf
  imod (close_own m ρ c) $$ [Ho] with Ho
  · isplitr; · iexact Hc
    iexact Ho
  imodintro
  unfold sems
  iframe
  iapply (Entails.of_eq (ring_order (fun d => semVal (cell c (amx d)) 0) c))
  isplitl [Ho]; · iexact Ho
  isplitl [Hl]; · iexact Hl
  isplitl [Hr]; · iexact Hr
  iexact Hf

set_option maxHeartbeats 1600000 in
theorem part1 (c : Dev nD) {Q : (Σ' (d0 : Dev nD) (v2 : BitVec 32) (v14 : BitVec 32) (v25 : BitVec 32) (v28 : BitVec 32) (v29 : BitVec 32), BitVec 1) → sProp 𝕄} :
    iprop(∀ v2 v14 v25 v28 v29 v34, Q ⟨c, v2, v14, v25, v28, v29, v34⟩)
      ⊢ wp frame (wpE (defs₀ (F := F)) 𝒱₀ (c : Thread nD τ) none) Set.univ (k0_part1 xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10) Q := by
  rw [k0_part1_eq_skeleton]
  unfold k0_part1_skel
  simp only [Prog.lift, Prog.bind_op, Prog.bind_ret, Prog.pure_eq_ret, wp_deviceId, wp_ret]
  iintro H
  imodintro
  iapply H

set_option maxHeartbeats 8000000 in
/-- The body on device `c`, from its start to its end. -/
theorem run_body (c : Dev nD) {Q : PUnit → sProp 𝕄} :
    iprop(ctx m ρ ∗ own c 0 ∗ ghosts c ∗ mem₀ m ρ c ∗ ((own c 13 ∗ mem₁ m ρ c ∗ sems c) -∗ Q ⟨⟩))
      ⊢ wp frame (wpE (defs₀ (F := F)) 𝒱₀ (c : Thread nD τ) none) Set.univ (cc0_body xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10) Q := by
  rw [cc0_body_eq_skeleton]
  unfold cc0_body_skel ghosts mem₀
  iintro ⟨#Hc, H1, ⟨H2, H3, H4, H5, H6, H7, H8, H9, H10, H11, H12, H13, H14, H15, H16, H17, H18, H19, H20, H21, H22, H23, H24, H25, H26, H27, H28, H29, H30, H31, H32, H33, H34, H35, H36, H37, H38, H39⟩, ⟨H40, H41, H42, H43, H44, H45, H46, H47⟩, Hk⟩
  rw [wp_bind]
  iapply (part1 c)
  iintro %v2 %v14 %v25 %v28 %v29 %v34
  dsimp only
  rw [wp_bind]
  iapply (part2 m ρ c _ _ _ _ _ _)
  isplitr; · iexact Hc
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H29]; · iexact H29
  isplitl [H30]; · iexact H30
  isplitl [H40]; · iexact H40
  isplitl [H41]; · iexact H41
  isplitl [H42]; · iexact H42
  isplitl [H43]; · iexact H43
  isplitl [H44]; · iexact H44
  isplitl [H45]; · iexact H45
  isplitl [H47]; · iexact H47
  iintro %v36 ⟨H48, H49, H50, H51, H52, H53, H54, H55, H56, H57, H58, H59, H60, H61⟩
  try dsimp only
  rw [wp_bind]
  iapply (part3 m ρ c _ _ _)
  isplitr; · iexact Hc
  isplitl [H48]; · iexact H48
  isplitl [H17]; · iexact H17
  isplitl [H19]; · iexact H19
  isplitl [H7]; · iexact H7
  isplitl [H9]; · iexact H9
  isplitl [H31]; · iexact H31
  isplitl [H32]; · iexact H32
  isplitl [H59]; · iexact H59
  isplitl [H56]; · iexact H56
  iintro ⟨H62, H63, H64, H65, H66, H67, H68, H69, H70⟩
  try dsimp only
  rw [wp_bind]
  iapply (part4 m ρ c _ _ _)
  isplitr; · iexact Hc
  isplitl [H62]; · iexact H62
  isplitl [H10]; · iexact H10
  isplitl [H33]; · iexact H33
  isplitl [H57]; · iexact H57
  isplitl [H52]; · iexact H52
  isplitl [H46]; · iexact H46
  isplitl [H69]; · iexact H69
  iintro ⟨H71, H72, H73, H74, H75⟩
  try dsimp only
  rw [wp_bind]
  iapply (part5 m ρ c _ _ _ _)
  isplitr; · iexact Hc
  isplitl [H71]; · iexact H71
  isplitl [H11]; · iexact H11
  isplitl [H34]; · iexact H34
  isplitl [H60]; · iexact H60
  isplitl [H74]; · iexact H74
  isplitl [H18]; · iexact H18
  iintro ⟨H76, H77, H78, H79, H80, H81⟩
  try dsimp only
  rw [wp_bind]
  iapply (part6 m ρ c _ _ _)
  isplitr; · iexact Hc
  isplitl [H76]; · iexact H76
  isplitl [H20]; · iexact H20
  isplitl [H65]; · iexact H65
  isplitl [H79]; · iexact H79
  isplitl [H73]; · iexact H73
  isplitl [H67]; · iexact H67
  isplitl [H68]; · iexact H68
  iintro ⟨H82, H83, H84, H85, H86, H87⟩
  try dsimp only
  rw [wp_bind]
  iapply (part7 m ρ c _ _)
  isplitr; · iexact Hc
  isplitl [H82]; · iexact H82
  isplitl [H12]; · iexact H12
  isplitl [H13]; · iexact H13
  isplitl [H35]; · iexact H35
  isplitl [H36]; · iexact H36
  isplitl [H80]; · iexact H80
  isplitl [H87]; · iexact H87
  isplitl [H55]; · iexact H55
  iintro ⟨H88, H89, H90, H91, H92⟩
  try dsimp only
  ihave H92 := (share_split (ℓ := (c : Thread nD τ).loc cc0_scratch8)) $$ H92
  icases H92 with ⟨HL, HR⟩
  ihave HL := (share_split (ℓ := (c : Thread nD τ).loc cc0_scratch8)) $$ HL
  icases HL with ⟨H93, H94⟩
  ihave HR := (share_split (ℓ := (c : Thread nD τ).loc cc0_scratch8)) $$ HR
  icases HR with ⟨H95, H96⟩
  rw [wp_bind]
  iapply (part8 m ρ c _)
  isplitr; · iexact Hc
  isplitl [H88]; · iexact H88
  isplitl [H14]; · iexact H14
  isplitl [H15]; · iexact H15
  isplitl [H37]; · iexact H37
  isplitl [H38]; · iexact H38
  isplitl [H61]; · iexact H61
  isplitl [H81]; · iexact H81
  isplitl [H94]; · iexact H94
  isplitl [H95]; · iexact H95
  iintro %v250 ⟨H97, H98, H99⟩
  try dsimp only
  rw [wp_bind]
  iapply (part9 m ρ c _ _ _ _)
  isplitr; · iexact Hc
  isplitl [H97]; · iexact H97
  isplitl [H16]; · iexact H16
  isplitl [H39]; · iexact H39
  isplitl [H58]; · iexact H58
  isplitl [H96]; · iexact H96
  isplitl [H21]; · iexact H21
  isplitl [H22]; · iexact H22
  iintro %v278 ⟨H100, H101, H102, H103, H104, H105⟩
  try dsimp only
  rw [wp_bind]
  iapply (part10 m ρ c _ _ _)
  isplitr; · iexact Hc
  isplitl [H100]; · iexact H100
  isplitl [H23]; · iexact H23
  isplitl [H24]; · iexact H24
  iintro ⟨H106, H107, H108, H109⟩
  try dsimp only
  rw [wp_bind]
  iapply (part11 m ρ c _)
  isplitr; · iexact Hc
  isplitl [H106]; · iexact H106
  isplitl [H25]; · iexact H25
  isplitl [H26]; · iexact H26
  iintro ⟨H110, H111, H112, H113, H114⟩
  try dsimp only
  rw [wp_bind]
  iapply (part12 m ρ c )
  isplitr; · iexact Hc
  isplitl [H110]; · iexact H110
  isplitl [H27]; · iexact H27
  isplitl [H93]; · iexact H93
  isplitl [H113]; · iexact H113
  isplitl [H114]; · iexact H114
  isplitl [H54]; · iexact H54
  isplitl [H104]; · iexact H104
  isplitl [H105]; · iexact H105
  isplitl [H109]; · iexact H109
  iintro ⟨H115, H116, H117, H118, H119, H120, H121, H122, H123, H124⟩
  try dsimp only
  rw [wp_bind]
  iapply (part13 m ρ c )
  isplitr; · iexact Hc
  isplitl [H115]; · iexact H115
  isplitl [H122]; · iexact H122
  isplitl [H123]; · iexact H123
  isplitl [H124]; · iexact H124
  isplitl [H50]; · iexact H50
  isplitl [H51]; · iexact H51
  iintro ⟨H125, H126, H127, H128, H129, H130, H131, H132⟩
  try dsimp only
  rw [wp_bind]
  iapply (part14 m ρ c )
  isplitr; · iexact Hc
  isplitl [H125]; · iexact H125
  isplitl [H66]; · iexact H66
  isplitl [H72]; · iexact H72
  isplitl [H77]; · iexact H77
  isplitl [H89]; · iexact H89
  isplitl [H90]; · iexact H90
  iintro ⟨H133, H134, H135, H136, H137, H138, H139, H140, H141, H142, H143⟩
  try dsimp only
  simp only [Prog.lift, Prog.bind_op, Prog.bind_ret, Prog.pure_eq_ret]
  iapply (wait_own m ρ c (dq 19) ⟨by decide, (Nat.lt_of_lt_of_le (by decide) (Nat.le_add_right 22 _)).ne⟩ sem_19 (credit_19 c)) $$ [H133 H98]
  · isplitr; · iexact Hc
    isplitl [H133]; · iexact H133
    iexact H98
  iintro ⟨H133, H144, HP⟩
  ihave H145 := (Entails.of_eq (pay19_def m ρ c)) $$ HP
  iapply (wait_own m ρ c (dq 20) ⟨by decide, (Nat.lt_of_lt_of_le (by decide) (Nat.le_add_right 22 _)).ne⟩ sem_20 (credit_20 c)) $$ [H133 H99]
  · isplitr; · iexact Hc
    isplitl [H133]; · iexact H133
    iexact H99
  iintro ⟨H133, H146, HP⟩
  ihave H147 := (Entails.of_eq (pay20_def m ρ c)) $$ HP
  iapply (wait_own m ρ c (dq 21) ⟨by decide, (Nat.lt_of_lt_of_le (by decide) (Nat.le_add_right 22 _)).ne⟩ sem_21 (credit_21 c)) $$ [H133 H101]
  · isplitr; · iexact Hc
    isplitl [H133]; · iexact H133
    iexact H101
  iintro ⟨H133, H148, HP⟩
  ihave H149 := (Entails.of_eq (pay21_def m ρ c)) $$ HP
  rw [wp_ret]
  ihave H150 := (share_join (ℓ := (c : Thread nD τ).loc cc0_stg1_0)) $$ [H132 H53]
  · isplitl [H132]; · iexact H132
    iexact H53
  ihave H151 := (share_join (ℓ := (c : Thread nD τ).loc cc0_stg1_0)) $$ [H131 H150]
  · isplitl [H131]; · iexact H131
    iexact H150
  ihave H152 := (join4 (ℓ := (c : Thread nD τ).loc cc0_stg2_0) quarter_rows order_ne) $$ [H121 H126 H127 H128]
  · isplitl [H121]; · iexact H121
    isplitl [H126]; · iexact H126
    isplitl [H127]; · iexact H127
    iexact H128
  ihave H153 := (Cut.joinSome (ℓ := (c : Thread nD τ).loc cc0_scratch0) (cut_row 0)) $$ [H142 H143]
  · isplitl [H142]; · iexact H142
    iexact H143
  ihave H154 := (Cut.joinSome (ℓ := (c : Thread nD τ).loc cc0_scratch0) (cut_rest _)) $$ [H153 H91]
  · isplitl [H153]; · iexact H153
    iexact H91
  ihave H155 := (Cut.join (ℓ := (c : Thread nD τ).loc cc0_scratch1) cut_half) $$ [H70 H139]
  · isplitl [H70]; · iexact H70
    iexact H139
  ihave H156 := (share_join (ℓ := (c : Thread nD τ).loc cc0_scratch1)) $$ [H155 H75]
  · isplitl [H155]; · iexact H155
    iexact H75
  ihave H157 := (toSome _) $$ H156
  ihave H158 := (toSome _) $$ H85
  ihave H159 := (Cut.joinSome (ℓ := (c : Thread nD τ).loc cc0_scratch3) cut_tile) $$ [H140 H141]
  · isplitl [H140]; · iexact H140
    iexact H141
  ihave H160 := (share_join (ℓ := (c : Thread nD τ).loc cc0_scratch8)) $$ [H117 H145]
  · isplitl [H117]; · iexact H117
    iexact H145
  ihave H161 := (share_join (ℓ := (c : Thread nD τ).loc cc0_scratch8)) $$ [H147 H149]
  · isplitl [H147]; · iexact H147
    iexact H149
  ihave H162 := (share_join (ℓ := (c : Thread nD τ).loc cc0_scratch8)) $$ [H160 H161]
  · isplitl [H160]; · iexact H160
    iexact H161
  ihave H163 := (join4 (ℓ := (c : Thread nD τ).loc cc0_scratch8) quarter_slots (ring_ne c)) $$ [H162 H118 H119 H120]
  · isplitl [H162]; · iexact H162
    isplitl [H118]; · iexact H118
    isplitl [H119]; · iexact H119
    iexact H120
  ihave H164 := (toSome _) $$ H163
  imod (close_all m ρ c) $$ [H49 H129 H84 H130 H134 H63 H78 H64 H83 H135 H136 H137 H138 H102 H103 H107 H108 H144 H146 H148 H28 H116 H111 H112] with HS
  · isplitr; · iexact Hc
    unfold atEnd
    isplitl [H49]; · iexact H49
    isplitl [H129]; · iexact H129
    isplitl [H84]; · iexact H84
    isplitl [H130]; · iexact H130
    isplitl [H134]; · iexact H134
    isplitl [H63]; · iexact H63
    isplitl [H78]; · iexact H78
    isplitl [H64]; · iexact H64
    isplitl [H83]; · iexact H83
    isplitl [H135]; · iexact H135
    isplitl [H136]; · iexact H136
    isplitl [H137]; · iexact H137
    isplitl [H138]; · iexact H138
    isplitl [H102]; · iexact H102
    isplitl [H103]; · iexact H103
    isplitl [H107]; · iexact H107
    isplitl [H108]; · iexact H108
    isplitl [H144]; · iexact H144
    isplitl [H146]; · iexact H146
    isplitl [H148]; · iexact H148
    isplitl [H28]; · iexact H28
    isplitl [H116]; · iexact H116
    isplitl [H111]; · iexact H111
    iexact H112
  imodintro
  iapply Hk
  isplitl [H133]; · iexact H133
  isplitr [HS]
  · unfold mem₁
    isplitl [H86]; · iexact H86
    isplitl [H151]; · iexact H151
    isplitl [H152]; · iexact H152
    isplitl [H154]; · iexact H154
    isplitl [H157]; · iexact H157
    isplitl [H158]; · iexact H158
    isplitl [H159]; · iexact H159
    iexact H164
  iexact HS

end Cert.Exchange

end
-- ==== Proof.Deal.lean ====
/-
# The launch deals the cells

Before the kernels start, every cell gets its invariant, every device its positions on its own cells, the tokens of the
payments it makes, and the credits of the waits for what other devices send it.

-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: all but the three of the pipeline. -/
def osem : Fin 23 → SemLoc sig := fun j => .dma ⟨j.val + 3, by have := j.isLt; show _ < 26; omega⟩

theorem ownSemFacts : Pipeline.OwnSemFacts cfg0.spec osem := by decide

theorem csem_injective : ∀ k k' : Fin 24, csem k = csem k' → k = k' := by decide +kernel

theorem kcell_injective : Function.Injective (kcell : Dev nD × Fin 24 → GSem nD τ sig) := by
  rintro ⟨c, k⟩ ⟨c', k'⟩ h
  have h1 : c = c' := congrArg (fun g : GSem nD τ sig => g.1.1) h
  subst h1
  have h2 : csem k = csem k' := congrArg Prod.snd h
  rw [csem_injective k k' h2]

def allCells : Finset (GSem nD τ sig) := Finset.univ.map ⟨kcell, kcell_injective⟩

/-- The cell and the duty of the `j`-th payment that device `c` makes. -/
def payOf (c : Dev nD) : Fin 24 → GSem nD τ sig × Bool :=
  ![(barCell (lf c), true), (barCell (rt c), false), (cell c (dq 3), false), (cell c (dq 4), false), (cell c (dq 5), false), (cell c (dq 6), false), (cell c (dq 11), false), (cell c (dq 12), false), (cell c (dq 13), false), (cell c (dq 14), false), (cell c (dq 19), false), (cell c (dq 20), false), (cell c (dq 21), false), (cell (rt c) (dq 7), false), (cell (lf c) (dq 9), false), (cell (rt c) (dq 8), false), (cell (lf c) (dq 10), false), (cell (lf c) (dq 16), false), (cell (rt c) (dq 15), false), (cell (fr c) (dq 17), false), (cell (fr c) (dq 18), false), (cell (rt c) (amx c), false), (cell (fr c) (amx c), false), (cell (lf c) (amx c), false)]
def tokOf (cj : Dev nD × Fin 24) : GSem nD τ sig × ℕ × Bool := ((payOf cj.1 cj.2).1, 0, (payOf cj.1 cj.2).2)

theorem payOf_injective : ∀ (c c' : Dev nD) (j j' : Fin 24), payOf c j = payOf c' j' → c = c' ∧ j = j' := by decide +kernel

theorem tokOf_injective : Function.Injective (tokOf : Dev nD × Fin 24 → GSem nD τ sig × ℕ × Bool) := by
  rintro ⟨c, j⟩ ⟨c', j'⟩ h
  have h1 : payOf c j = payOf c' j' := Prod.ext (congrArg (fun x : GSem nD τ sig × ℕ × Bool => x.1) h) (congrArg (fun x : GSem nD τ sig × ℕ × Bool => x.2.2) h)
  obtain ⟨rfl, rfl⟩ := payOf_injective c c' j j' h1
  rfl

def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of the payments that device `c` makes. -/
def toks (c : Dev nD) : sProp 𝕄 :=
  iprop(dutyTok ER (barCell (lf c)) 0 true
    ∗ dutyTok ER (barCell (rt c)) 0 false
    ∗ dutyTok ER (cell c (dq 3)) 0 false
    ∗ dutyTok ER (cell c (dq 4)) 0 false
    ∗ dutyTok ER (cell c (dq 5)) 0 false
    ∗ dutyTok ER (cell c (dq 6)) 0 false
    ∗ dutyTok ER (cell c (dq 11)) 0 false
    ∗ dutyTok ER (cell c (dq 12)) 0 false
    ∗ dutyTok ER (cell c (dq 13)) 0 false
    ∗ dutyTok ER (cell c (dq 14)) 0 false
    ∗ dutyTok ER (cell c (dq 19)) 0 false
    ∗ dutyTok ER (cell c (dq 20)) 0 false
    ∗ dutyTok ER (cell c (dq 21)) 0 false
    ∗ dutyTok ER (cell (rt c) (dq 7)) 0 false
    ∗ dutyTok ER (cell (lf c) (dq 9)) 0 false
    ∗ dutyTok ER (cell (rt c) (dq 8)) 0 false
    ∗ dutyTok ER (cell (lf c) (dq 10)) 0 false
    ∗ dutyTok ER (cell (lf c) (dq 16)) 0 false
    ∗ dutyTok ER (cell (rt c) (dq 15)) 0 false
    ∗ dutyTok ER (cell (fr c) (dq 17)) 0 false
    ∗ dutyTok ER (cell (fr c) (dq 18)) 0 false
    ∗ dutyTok ER (cell (rt c) (amx c)) 0 false
    ∗ dutyTok ER (cell (fr c) (amx c)) 0 false
    ∗ dutyTok ER (cell (lf c) (amx c)) 0 false)

/-- Device `c`'s positions at the start of its cells. -/
def starts (c : Dev nD) : sProp 𝕄 := bigSep Finset.univ fun k : Fin 24 => atPos ER (kcell (c, k)) 0 ∅ 0

/-- What device `c` gets first, and after the cells have their invariants. -/
def G (c : Dev nD) : sProp 𝕄 :=
  iprop((bigSep Finset.univ fun k : Fin 24 => roundState ER (plan m ρ) (kcell (c, k)) 0)
    ∗ (bigSep Finset.univ fun k : Fin 24 => reached ER (kcell (c, k)) 0) ∗ starts c ∗ toks c)

/-- The invariants and the marks of all the cells. -/
def invs : sProp 𝕄 :=
  iprop((bigSep Finset.univ fun ck : Dev nD × Fin 24 => iprop(∃ κ : ℕ, cellInv ER (plan m ρ) κ (kcell ck)))
    ∗ bigSep Finset.univ fun ck : Dev nD × Fin 24 => reached ER (kcell ck) 0)

instance invs_persistent : BI.Persistent (invs m ρ) := by unfold invs; infer_instance

def G' (c : Dev nD) : sProp 𝕄 := iprop(invs m ρ ∗ starts c ∗ toks c)

theorem bigSep_24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) :=
  bigSep_univ_eq_bigSepL [0, 1, 2, 3, 4, 5, 6, 7, 8, 9, 10, 11, 12, 13, 14, 15, 16, 17, 18, 19, 20, 21, 22, 23] (by decide) (by decide) Φ

theorem toks_eq (c : Dev nD) : (bigSep Finset.univ fun j : Fin 24 => (dutyTok ER (tokOf (c, j)).1 (tokOf (c, j)).2.1 (tokOf (c, j)).2.2 : sProp 𝕄)) = toks c := by
  rw [bigSep_24]; rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 24 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (plan m ρ) allCells allToks) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G starts
  rw [bigSep_sep', bigSep_sep', bigSep_sep']
  isplitl [Hst']; · iexact Hst'
  isplitl [Hr']; · iexact Hr'
  isplitl [Hat']; · iexact Hat'
  iexact Htok'

theorem ownSems0_eq (c : Dev nD) : (Pipeline.ownSems0 (Ix := Unit) (Name := ℕ) (U := UU) (Lvl := ℕ) (Val := Elt F) (τ := τ) osem c : sProp 𝕄)
    = iprop(semVal (cell c (dq 3)) 0 ∗ semVal (cell c (dq 4)) 0 ∗ semVal (cell c (dq 5)) 0 ∗ semVal (cell c (dq 6)) 0 ∗ semVal (cell c (dq 7)) 0 ∗ semVal (cell c (dq 8)) 0 ∗ semVal (cell c (dq 9)) 0 ∗ semVal (cell c (dq 10)) 0 ∗ semVal (cell c (dq 11)) 0 ∗ semVal (cell c (dq 12)) 0 ∗ semVal (cell c (dq 13)) 0 ∗ semVal (cell c (dq 14)) 0 ∗ semVal (cell c (dq 15)) 0 ∗ semVal (cell c (dq 16)) 0 ∗ semVal (cell c (dq 17)) 0 ∗ semVal (cell c (dq 18)) 0 ∗ semVal (cell c (dq 19)) 0 ∗ semVal (cell c (dq 20)) 0 ∗ semVal (cell c (dq 21)) 0 ∗ semVal (cell c (dq 22)) 0 ∗ semVal (cell c (dq 23)) 0 ∗ semVal (cell c (dq 24)) 0 ∗ semVal (cell c (dq 25)) 0) := by
  rw [Pipeline.ownSems0_eq_of_list c osem [0, 1, 2, 3, 4, 5, 6, 7, 8, 9, 10, 11, 12, 13, 14, 15, 16, 17, 18, 19, 20, 21, 22] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_of (c : Dev nD) :
    iprop(Pipeline.ownSems0 (Ix := Unit) (Name := ℕ) (U := UU) (Lvl := ℕ) (Val := Elt F) (τ := τ) osem c ∗ unscopedSems0 c)
      ⊢ (bigSep Finset.univ fun k : Fin 24 => semVal (kcell (c, k)) 0 : sProp 𝕄) := by
  rw [ownSems0_eq, unscopedSems0_eq, bigSep_24]
  iintro ⟨HO, HB⟩
  isplitl [HB]; · iexact HB
  iexact HO

theorem sems_to (c : Dev nD) : (sems c : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]
  unfold sems
  iintro ⟨H1, H2⟩
  isplitl [H1]; · iexact H1
  iexact H2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 24 => iprop(∃ κ : ℕ, cellInv ER (plan m ρ) κ (kcell (c, k))))
          ∗ (bigSep Finset.univ fun k : Fin 24 => reached ER (kcell (c, k)) 0) ∗ starts c ∗ toks c) := by
  unfold G
  iintro ⟨Hos, Hus, Hst, Hrest⟩
  ihave Hv := (sems_of (F := F) c) $$ [Hos Hus]
  · isplitl [Hos] <;> iassumption
  imod (show iprop((bigSep Finset.univ fun k : Fin 24 => semVal (kcell (c, k)) 0) ∗ bigSep Finset.univ fun k : Fin 24 => roundState ER (plan m ρ) (kcell (c, k)) 0)
      ⊢ (|={Set.univ}=> bigSep Finset.univ fun k : Fin 24 => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  iexact Hrest

/-- What holds for good is dealt to everybody. -/
theorem deal {I : Type} [DecidableEq I] {S : Finset I} {R : sProp 𝕄} [BI.Persistent R] {Φ : I → sProp 𝕄} :
    iprop(R ∗ bigSep S Φ) ⊢ bigSep S fun i => iprop(R ∗ Φ i) :=
  (sep_mono_left (BI.bigSep_of_persistent S R)).trans (Entails.of_eq (bigSep_sep' S _ _).symm)

theorem regroup :
    (bigSep Finset.univ fun c : Dev nD => iprop((bigSep Finset.univ fun k : Fin 24 => iprop(∃ κ : ℕ, cellInv ER (plan m ρ) κ (kcell (c, k))))
          ∗ (bigSep Finset.univ fun k : Fin 24 => reached ER (kcell (c, k)) 0) ∗ starts c ∗ toks c) : sProp 𝕄)
      ⊢ bigSep Finset.univ (G' m ρ) := by
  rw [bigSep_sep', bigSep_sep', ← bigSep_univ_prod (fun ck : Dev nD × Fin 24 => iprop(∃ κ : ℕ, cellInv ER (plan m ρ) κ (kcell ck))),
    ← bigSep_univ_prod (fun ck : Dev nD × Fin 24 => (reached ER (kcell ck) 0 : sProp 𝕄))]
  iintro ⟨HI, HR, Hl⟩
  unfold G'
  iapply (deal (R := invs m ρ))
  isplitl [HI HR]
  · unfold invs
    isplitl [HI] <;> iassumption
  iexact Hl

/-- Every device's semaphores are turned into cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What the other devices pay into device `c`'s cells. -/
def dues (c : Dev nD) : List (GSem nD τ sig × ℕ) :=
  [(barCell c, 2), (cell c (dq 7), amt (dq 7)), (cell c (dq 8), amt (dq 8)), (cell c (dq 9), amt (dq 9)), (cell c (dq 10), amt (dq 10)), (cell c (dq 15), amt (dq 15)), (cell c (dq 16), amt (dq 16)), (cell c (dq 17), amt (dq 17)), (cell c (dq 18), amt (dq 18)), (cell c (amx (rt c)), amt (amx (rt c))), (cell c (amx (fr c)), amt (amx (fr c))), (cell c (amx (lf c)), amt (amx (lf c)))]

abbrev O₀ (c : Dev nD) : CellTallies nD τ sig Unit := Oat (left c 0)

theorem sum_around (s t : Dev nD → Dev nD) (hs : ∀ c, s (t c) = c) (ht : ∀ c, t (s c) = c) (f : Dev nD → CellTallies nD τ sig Unit) :
    (∑ d, f (s d)) = ∑ d, f d := Equiv.sum_comp (⟨s, t, ht, hs⟩ : Dev nD ≃ Dev nD) f

/-- A payment to the device that `s` names, summed over the payers, is the same summed over those paid. -/
theorem sum_cell (s t : Dev nD → Dev nD) (hs : ∀ c, s (t c) = c) (ht : ∀ c, t (s c) = c) (q : DmaSem sig) :
    (∑ d, tallyAt (cell (s d) q) () (amt q)) = (∑ d, tallyAt (cell d q) () (amt q) : CellTallies nD τ sig Unit) :=
  sum_around s t hs ht fun c => tallyAt (cell c q) () (amt q)
theorem sum_amx (s t : Dev nD → Dev nD) (hs : ∀ c, s (t c) = c) (ht : ∀ c, t (s c) = c) :
    (∑ d, tallyAt (cell (s d) (amx d)) () (amt (amx d))) = (∑ d, tallyAt (cell d (amx (t d))) () (amt (amx (t d))) : CellTallies nD τ sig Unit) := by
  rw [← sum_around s t hs ht fun d => tallyAt (cell d (amx (t d))) () (amt (amx (t d)))]
  exact Finset.sum_congr rfl fun d _ => by rw [ht d]
theorem sum_bar (s t : Dev nD → Dev nD) (hs : ∀ c, s (t c) = c) (ht : ∀ c, t (s c) = c) :
    (∑ d, tallyAt (barCell (s d)) () 1) = (∑ d, tallyAt (barCell d) () 1 : CellTallies nD τ sig Unit) :=
  sum_around s t hs ht fun c => tallyAt (barCell c) () 1

theorem sum_debts : (∑ d, O₀ d) = ∑ c : Dev nD, Oat (dues c) := by
  show (∑ d, Oat (debts d)) = _
  have h2 : (∑ d, tallyAt (barCell d) () 2 : CellTallies nD τ sig Unit) = (∑ d, tallyAt (barCell d) () 1) + ∑ d, tallyAt (barCell d) () 1 := by
    rw [← Finset.sum_add_distrib]; exact Finset.sum_congr rfl fun d _ => (tallyAt_add _ _ 1 1).symm
  simp only [debts, dues, Oat, Finset.sum_add_distrib]
  rw [h2, sum_bar lf rt lf_rt rt_lf, sum_bar rt lf rt_lf lf_rt, sum_cell rt lf rt_lf lf_rt, sum_cell lf rt lf_rt rt_lf, sum_cell rt lf rt_lf lf_rt,
    sum_cell lf rt lf_rt rt_lf, sum_cell lf rt lf_rt rt_lf, sum_cell rt lf rt_lf lf_rt, sum_cell fr fr fr_fr fr_fr, sum_cell fr fr fr_fr fr_fr,
    sum_amx rt lf rt_lf lf_rt, sum_amx fr fr fr_fr fr_fr, sum_amx lf rt lf_rt rt_lf]
  ac_rfl

theorem dues_own (c : Dev nD) : ∀ x ∈ dues c, x.1.1 = (c.tc : Thread nD τ) := by
  unfold dues
  repeat' first | exact fun _ h => absurd h List.not_mem_nil | refine List.forall_mem_cons.mpr ⟨rfl, ?_⟩

theorem Oat_ne {l : List (GSem nD τ sig × ℕ)} {g : GSem nD τ sig} (h : Oat l g ≠ 0) : ∃ x ∈ l, g = x.1 := by
  obtain ⟨u, hu⟩ := Finsupp.ne_iff.mp h
  exact Oat_pos (u := u) (Nat.pos_of_ne_zero hu)

/-- The credits of a list of payments, one by one. -/
theorem cred_cons (x : GSem nD τ sig × ℕ) (l : List (GSem nD τ sig × ℕ)) :
    (cred (Oat (x :: l)) : sProp 𝕄) ⊢ iprop(cred (tallyAt x.1 () x.2) ∗ cred (Oat l)) := by
  refine (cred_add (Oat l) (tallyAt x.1 () x.2)).1.trans ?_
  iintro ⟨H, H'⟩
  isplitl [H'] <;> iassumption

theorem creds (c : Dev nD) :
    (Pipeline.launchCred O₀ c : sProp 𝕄) ⊢ iprop(cred (tallyAt (barCell c) () (2))
    ∗ cred (tallyAt (cell c (dq 7)) () (amt (dq 7)))
    ∗ cred (tallyAt (cell c (dq 8)) () (amt (dq 8)))
    ∗ cred (tallyAt (cell c (dq 9)) () (amt (dq 9)))
    ∗ cred (tallyAt (cell c (dq 10)) () (amt (dq 10)))
    ∗ cred (tallyAt (cell c (dq 15)) () (amt (dq 15)))
    ∗ cred (tallyAt (cell c (dq 16)) () (amt (dq 16)))
    ∗ cred (tallyAt (cell c (dq 17)) () (amt (dq 17)))
    ∗ cred (tallyAt (cell c (dq 18)) () (amt (dq 18)))
    ∗ cred (tallyAt (cell c (amx (rt c))) () (amt (amx (rt c))))
    ∗ cred (tallyAt (cell c (amx (fr c))) () (amt (amx (fr c))))
    ∗ cred (tallyAt (cell c (amx (lf c))) () (amt (amx (lf c))))) := by
  rw [Pipeline.launchCred_of_sum O₀ (fun c => Oat (dues c)) sum_debts (fun d g hg => by
    obtain ⟨x, hx, rfl⟩ := Oat_ne hg
    exact dues_own d x hx) c]
  unfold dues
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans (sep_mono_right ?_)
  refine (cred_cons _ _).trans ?_
  iintro ⟨H, -⟩
  iexact H

/-! ## What the body starts with -/

theorem starts_eq (c : Dev nD) : (starts c : sProp 𝕄) = iprop(atPos ER (barCell c) 0 ∅ 0 ∗ fresh c (dq 3) ∗ fresh c (dq 4) ∗ fresh c (dq 5) ∗ fresh c (dq 6) ∗ fresh c (dq 7) ∗ fresh c (dq 8) ∗ fresh c (dq 9) ∗ fresh c (dq 10) ∗ fresh c (dq 11) ∗ fresh c (dq 12) ∗ fresh c (dq 13) ∗ fresh c (dq 14) ∗ fresh c (dq 15) ∗ fresh c (dq 16) ∗ fresh c (dq 17) ∗ fresh c (dq 18) ∗ fresh c (dq 19) ∗ fresh c (dq 20) ∗ fresh c (dq 21) ∗ fresh c (dq 22) ∗ fresh c (dq 23) ∗ fresh c (dq 24) ∗ fresh c (dq 25)) := by
  unfold starts; rw [bigSep_24]; rfl

set_option maxHeartbeats 1600000 in
theorem ghosts_intro (c : Dev nD) : iprop(Pipeline.launchCred O₀ c ∗ starts c ∗ toks c) ⊢ (ghosts c : sProp 𝕄) := by
  rw [starts_eq]
  unfold toks ghosts canSend canWait tok
  iintro ⟨Hcr, ⟨HB, F3, F4, F5, F6, F7, F8, F9, F10, F11, F12, F13, F14, F15, F16, F17, F18, F19, F20, F21, F22, F23, F24, F25⟩, T0, T1, T2, T3, T4, T5, T6, T7, T8, T9, T10, T11, T12, T13, T14, T15, T16, T17, T18, T19, T20, T21, T22, T23⟩
  ihave Hcr := (creds (F := F) c) $$ Hcr
  icases Hcr with ⟨C0, C1, C2, C3, C4, C5, C6, C7, C8, C9, C10, C11⟩
  ihave HF := (Entails.of_eq (ring_order (fun d => fresh c (amx d)) c).symm) $$ [F22 F23 F24 F25]
  · isplitl [F22]; · iexact F22
    isplitl [F23]; · iexact F23
    isplitl [F24]; · iexact F24
    iexact F25
  icases HF with ⟨Fo, Fl, Fr, Ff⟩
  isplitl [T0]; · iexact T0
  isplitl [T1]; · iexact T1
  isplitl [C0]; · iexact C0
  isplitl [HB]; · iexact HB
  isplitl [T2 F3]
  · isplitl [T2]; · iexact T2
    iexact F3
  isplitl [T3 F4]
  · isplitl [T3]; · iexact T3
    iexact F4
  isplitl [T4 F5]
  · isplitl [T4]; · iexact T4
    iexact F5
  isplitl [T5 F6]
  · isplitl [T5]; · iexact T5
    iexact F6
  isplitl [T6 F11]
  · isplitl [T6]; · iexact T6
    iexact F11
  isplitl [T7 F12]
  · isplitl [T7]; · iexact T7
    iexact F12
  isplitl [T8 F13]
  · isplitl [T8]; · iexact T8
    iexact F13
  isplitl [T9 F14]
  · isplitl [T9]; · iexact T9
    iexact F14
  isplitl [T10 F19]
  · isplitl [T10]; · iexact T10
    iexact F19
  isplitl [T11 F20]
  · isplitl [T11]; · iexact T11
    iexact F20
  isplitl [T12 F21]
  · isplitl [T12]; · iexact T12
    iexact F21
  isplitl [C1 F7]
  · isplitl [C1]; · iexact C1
    iexact F7
  isplitl [C2 F8]
  · isplitl [C2]; · iexact C2
    iexact F8
  isplitl [C3 F9]
  · isplitl [C3]; · iexact C3
    iexact F9
  isplitl [C4 F10]
  · isplitl [C4]; · iexact C4
    iexact F10
  isplitl [C5 F15]
  · isplitl [C5]; · iexact C5
    iexact F15
  isplitl [C6 F16]
  · isplitl [C6]; · iexact C6
    iexact F16
  isplitl [C7 F17]
  · isplitl [C7]; · iexact C7
    iexact F17
  isplitl [C8 F18]
  · isplitl [C8]; · iexact C8
    iexact F18
  isplitl [C9 Fr]
  · isplitl [C9]; · iexact C9
    iexact Fr
  isplitl [C10 Ff]
  · isplitl [C10]; · iexact C10
    iexact Ff
  isplitl [C11 Fl]
  · isplitl [C11]; · iexact C11
    iexact Fl
  isplitl [Fo]; · iexact Fo
  isplitl [T13]; · iexact T13
  isplitl [T14]; · iexact T14
  isplitl [T15]; · iexact T15
  isplitl [T16]; · iexact T16
  isplitl [T17]; · iexact T17
  isplitl [T18]; · iexact T18
  isplitl [T19]; · iexact T19
  isplitl [T20]; · iexact T20
  isplitl [T21]; · iexact T21
  isplitl [T22]; · iexact T22
  iexact T23

end Cert.Exchange

end
-- ==== Proof.Run.lean ====
/-
# The run on four devices

What the pipeline brings into a device's staging buffers is its rows of `x` and its columns of `w`; the body leaves them as
they are and fills the third with the result; the run of all four ends, with the result copied out on each.

-/
module

public import proofs.«01_k».proof.Proof.Deal
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The data of the pipeline -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The buffers that are not staged, at some contents. -/
def scratch (c : Dev nD) : sProp 𝕄 :=
  iprop(some_ c cc0_scratch0 Finset.univ ∗ some_ c cc0_scratch1 Finset.univ ∗ some_ c cc0_scratch2 Finset.univ ∗ some_ c cc0_scratch3 Finset.univ ∗ some_ c cc0_scratch8 Finset.univ)

def start (c : Dev nD) : sProp 𝕄 := iprop(ctx m ρ ∗ ghosts c)
def Φ₀ (c : Dev nD) : sProp 𝕄 := iprop(start m ρ c ∗ scratch c)
def Φ₁ (c : Dev nD) : sProp 𝕄 := iprop(scratch c ∗ sems c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => outFin m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

theorem before_0 (c : Dev nD) (d) : (dats m ρ 0 c).before (0 : Fin 3) t₀ d = xv m ρ c := by
  unfold Dat.before; rw [if_pos (fetch_0 t₀)]; rfl
theorem before_1 (c : Dev nD) (d) : (dats m ρ 0 c).before (1 : Fin 3) t₀ d = wv m ρ c := by
  unfold Dat.before; rw [if_pos (fetch_1 t₀)]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ pts c b Finset.univ fullShare f) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ pts c b Finset.univ fullShare f)

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xv m ρ c) ∗ stg c cc0_stg1_0 (wv m ρ c) ∗ stg c cc0_stg2_0 (outFin m ρ c))

theorem body_sound (c : Dev nD) : bodyPre m ρ c ⊢ wp frame (wpE (defs₀ (F := F)) 𝒱₀ (c : Thread nD τ) none) Set.univ
    (cc0_body xM (Memref.isWhole_whole _) wM (Memref.isWhole_whole _) oM (Memref.isWhole_whole _) rM (Memref.isWhole_whole _) lM (Memref.isWhole_whole _) fM (Memref.isWhole_whole _) tM (Memref.isWhole_whole _) cc0_scratch4 cc0_scratch5 cc0_scratch6 cc0_scratch7 aM (Memref.isWhole_whole _) cc0_scratch9 cc0_scratch10) (fun _ => bodyPost m ρ c) := by
  unfold bodyPre Φ₀ start scratch
  simp only [before_0, before_1]
  unfold Dat.owesAt Pipeline.owesWithin
  rw [show (dats m ρ 0 c).owed t₀.castSucc = O₀ c from rfl]
  iintro ⟨⟨⟨#Hc, Hg⟩, S0, S1, S2, S3, S8⟩, ⟨%W, -, Ho⟩, ⟨%d0, %f0, %e0, Hx⟩, ⟨%d1, %f1, %e1, Hw⟩, ⟨%d2, %f2, -, Hout⟩⟩
  subst e0
  subst e1
  iapply (run_body m ρ c)
  isplitr; · iexact Hc
  isplitl [Ho]
  · unfold own; iexists W; iexact Ho
  isplitl [Hg]; · iexact Hg
  isplitl [Hx Hw Hout S0 S1 S2 S3 S8]
  · unfold mem₀
    isplitl [Hx]; · iexact Hx
    isplitl [Hw]; · iexact Hw
    isplitl [Hout]; · iexists f2; iexact Hout
    isplitl [S0]; · iexact S0
    isplitl [S1]; · iexact S1
    isplitl [S2]; · iexact S2
    isplitl [S3]; · iexact S3
    iexact S8
  unfold own mem₁ bodyPost Φ₁ scratch Dat.owesAt Pipeline.owesWithin
  rw [show (dats m ρ 0 c).owed t₀.succ = 0 from rfl]
  iintro ⟨⟨%W', Ho⟩, ⟨Hx, Hw, Hout, S0, S1, S2, S3, S8⟩, HS⟩
  isplitl [S0 S1 S2 S3 S8 HS]
  · isplitr [HS]
    · isplitl [S0]; · iexact S0
      isplitl [S1]; · iexact S1
      isplitl [S2]; · iexact S2
      isplitl [S3]; · iexact S3
      iexact S8
    iexact HS
  isplitl [Ho]
  · iexists W'
    isplitr; · (ipureintro; exact fun _ _ => Or.inl trivial)
    iexact Ho
  isplitl [Hx]
  · iexists (xv m ρ c); isplitr; · (ipureintro; rfl)
    iexact Hx
  isplitl [Hw]
  · iexists (wv m ρ c); isplitr; · (ipureintro; rfl)
    iexact Hw
  iexists (outFin m ρ c); isplitr; · (ipureintro; rfl)
  iexact Hout

set_option maxRecDepth 4000 in
theorem body_obligation (c : Dev nD) : BodyObligation (dats (F := F) m ρ 0 c) (defs₀ (F := F)) 𝒱₀ () Set.univ := fun t => by
  rw [fin_N t]
  rw [bigSep_W, bigSep_W]
  simp only [owns_whole_eq]
  exact body_sound m ρ c

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start ctx invs
  iintro ⟨-, Hlev, Hcr, -, ⟨HI, HR⟩, Hst, Htk⟩
  imodintro
  isplitl
  · isplitl [HI HR Hlev]
    · isplitl [HI]; · iexact HI
      isplitl [HR]; · iexact HR
      iexact Hlev
    iapply (ghosts_intro (F := F) c)
    isplitl [Hcr]; · iexact Hcr
    isplitl [Hst]; · iexact Hst
    iexact Htk
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  iintro ⟨Hr, HS⟩
  ihave HS := (sems_to (F := F) c) $$ HS
  icases HS with ⟨H1, H2⟩
  isplitl [H1]; · iexact H1
  isplitl [H2]; · iexact H2
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (lv_stage c _ (by fin_cases w <;> fin_cases s <;> decide))
    · exact mayWait c _ 13 (lv_done c _)

/-! ## The run -/

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory, for any float values, the four devices end, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they began. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Cert.Exchange

end
-- ==== Proof.Frames.lean ====
/-
# The operands end unchanged

Read off the run: on every device the arrays of the two operands end as they began, and every counter ends at zero. The run
is for any float values, so it is the run of the printed program at machine floats and at the ideal ones.
-/
module

public import proofs.«01_k».proof.Defs
public import proofs.«01_k».proof.Proof.Gen.Kernel
public import proofs.«01_k».proof.Proof.Run

@[expose] public section

noncomputable section

namespace Cert.Exchange

open Idealize.ShloMosaic Idealize.SL.Sem

theorem frame_of_run {F : FTy → Type} [FloatOps F] (m : (ℓ : Loc Cert.KernelIdeal.nD Cert.KernelIdeal.τ Cert.KernelIdeal.sig) → Buf (Elt F) ℓ)
    (g : Dev Cert.KernelIdeal.nD → PrngReg) {r : PUnit × MemSt Cert.KernelIdeal.nD Cert.KernelIdeal.τ Cert.KernelIdeal.sig (Elt F)}
    (h : QC m g r ∧ r.2.sem = fun _ => 0) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  ⟨fun c => ⟨(h.1 c (0 : Fin 3)).trans (finalA_x m g c), (h.1 c (1 : Fin 3)).trans (finalA_w m g c)⟩, h.2⟩

theorem frame_ideal : Cert.quiescent_KernelIdeal :=
  fun m g _ => (θ_run Cert.KernelIdeal.defs _ _).mono (fun _ h => frame_of_run m g h) (run_main m g)

/-- The two programs have the same bodies. -/
theorem defs₀_eq : (Cert.Kernel.defs₀ (F := Bits)) = Cert.KernelIdeal.defs₀ (F := Bits) := by
  unfold Cert.Kernel.defs₀ Cert.KernelIdeal.defs₀
  refine congrArg Defs.onTc ?_
  funext l a
  match l, a with
  | ⟨0, _⟩, (t, s) =>
    dsimp only
    rfl
  | ⟨n + 1, h⟩, _ => exact absurd h (Nat.not_lt.2 (Nat.le_add_left _ _))
theorem defs_eq : (Cert.Kernel.defs (F := Bits)) = Cert.KernelIdeal.defs (F := Bits) :=
  congrArg (Pipeline.defs (nD := Cert.KernelIdeal.nD) (τ := Cert.KernelIdeal.τ) Cert.KernelIdeal.pcfgs) defs₀_eq

theorem frame_kernel : Cert.quiescent_Kernel := fun m g _ => by
  rw [defs_eq]
  exact (θ_run Cert.KernelIdeal.defs _ _).mono (fun _ h => frame_of_run m g h) (run_main (F := Bits) m g)

end Cert.Exchange

end
-- ==== Proof.Whole.lean ====
/-
  The one block of a window that is a whole array.
-/
module

public import Idealize.ShloMosaic.Lib.Pipeline.Value

@[expose] public section

namespace Cert.Exchange

open Idealize.ShloMosaic

/-- The one block of a window that is a whole array reads as the array. -/
theorem read_block {sig : RefSig} {Val : EltTy → Type} {s : Shape} {e : EltTy} {cs : CoreSpace} (arr : Memref sig .tc .hbm s e)
    (isOut sync : Bool) (stage : Memref sig .tc (.core cs) ⟨s.rank, s.size⟩ e) (sem : DmaSem sig) (harr : arr.IsWhole)
    (hstage : stage.IsWhole) (t : Fin Pipeline.Grid.none.N) (f) :
    ((Pipeline.Window.whole arr isOut sync stage sem harr hstage).blk t).view.read Val f = arr.view.read Val f := by
  funext i
  refine congrArg (arr.view.read Val f) (funext fun a => Fin.ext ?_)
  show 0 * _ + 1 * _ = _
  omega

end Cert.Exchange
-- ==== Proof.Result.lean ====
/-
  The kernel's result array at the end: every window is a whole array, so a read of its one block is the array itself,
  and the result on each device is what the body leaves in the result's buffer.
-/
module

public import proofs.«01_k».proof.Proof.Run
public import proofs.«01_k».proof.Proof.Whole
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

theorem read_win0 (t : Fin cfg0.N) (f : (main_arg0.ty).Contents (Elt F)) : (win0_0.blk t).view.read (Elt F) f = f :=
  read_block (Val := Elt F) (Memref.whole main_arg0) false false (stage0_0 0) (sem0_0 0) (Memref.isWhole_whole _) (hstage0_0 0) t f
theorem read_win1 (t : Fin cfg0.N) (f : (main_arg1.ty).Contents (Elt F)) : (win0_1.blk t).view.read (Elt F) f = f :=
  read_block (Val := Elt F) (Memref.whole main_arg1) false false (stage0_1 0) (sem0_1 0) (Memref.isWhole_whole _) (hstage0_1 0) t f
theorem read_win2 (t : Fin cfg0.N) (f : (main_v1.ty).Contents (Elt F)) : (win0_2.blk t).view.read (Elt F) f = f :=
  read_block (Val := Elt F) (Memref.whole main_v1) true false (stage0_2 0) (sem0_2 0) (Memref.isWhole_whole _) (hstage0_2 0) t f

theorem xv_eq (c : Dev nD) : xv m ρ c = m ((c : Thread nD τ).loc main_arg0) := read_win0 (0 : Fin 1) _
theorem wv_eq (c : Dev nD) : wv m ρ c = m ((c : Thread nD τ).loc main_arg1) := read_win1 (0 : Fin 1) _

theorem finalA_out (c : Dev nD) : finalA m ρ c (2 : Fin 3) = outFin m ρ c := by
  have h := (dats m ρ 0 c).read_blk_arrAt_eq_flushed 2
    (fun t t' _ _ hne => absurd ((inferInstance : Subsingleton (Fin 1)).elim t t') hne) cfg0.N t₀ t₀.isLt rfl
  exact (read_win2 t₀ _).symm.trans h

end Cert.Exchange

end
-- ==== Proof.Scalars.lean ====
/-
  Numbers of the quantiser, over the extended reals: the constants that the two programs name by their bit patterns,
  the greatest element of a reduction described by its upper bounds, and the quantiser itself. The kernel clips a
  quotient to [0, 448] and the reference to [-448, 448]; after the negative part has been cut off the two agree.
-/
module

public import Idealize.ShloMosaic.PureOps.Ideal.Laws
public import Idealize.ShloMosaic.Lib.KernelVsHost
public import Idealize.ShloMosaic.Lib.Pipeline.Value

@[expose] public section

noncomputable section

namespace Cert.Exchange

open Idealize.ShloMosaic

/-- 448, the greatest number of the 8-bit format, as the programs write it. -/
theorem ofBits_448 : Ideal.ofBits .f32 0x43E00000#32 = ((448 : ℝ) : EReal) := by
  simp [Ideal.ofBits, Ideal.ieee]
  rw [← EReal.coe_mul]
  norm_num
theorem ofBits_neg448 : Ideal.ofBits .f32 0xC3E00000#32 = ((-448 : ℝ) : EReal) := by
  simp [Ideal.ofBits, Ideal.ieee]
  rw [← EReal.coe_mul]
  norm_num
/-- The pattern that a maximum starts from is the least extended real. -/
theorem ofBits_bot : Ideal.ofBits .f32 0xFF800000#32 = (⊥ : EReal) := by
  simp [Ideal.ofBits, Ideal.ieee]

/-- A quotient of two nonnegative numbers by a positive one is nonnegative. -/
theorem div_nonneg_of_ne {v s : EReal} (hv : 0 ≤ v) (hs : 0 ≤ s) (h : s ≠ 0) : 0 ≤ Ideal.div v s := by
  rw [Ideal.div, if_neg h]
  exact mul_nonneg hv (EReal.inv_nonneg_of_nonneg hs)

/-- The scale is nonnegative when the greatest entry is. -/
theorem scale_nonneg {a : EReal} (ha : 0 ≤ a) : 0 ≤ Ideal.div a (Ideal.ofBits .f32 0x43E00000#32) := by
  rw [ofBits_448]
  exact div_nonneg_of_ne ha (by exact_mod_cast (by norm_num : (0 : ℝ) ≤ 448)) (by exact_mod_cast (by norm_num : (448 : ℝ) ≠ 0))

/-- The two clips agree on what the quantiser is given. At scale zero both results are zero. -/
theorem clip_eq {v s : EReal} (hv : 0 ≤ v) (hs : 0 ≤ s) (hi : EReal) :
    min hi (max (Ideal.ofBits .f32 0x00000000#32) (Ideal.div v s)) * s
      = min hi (max (Ideal.ofBits .f32 0xC3E00000#32) (Ideal.div v s)) * s := by
  by_cases h : s = 0
  · rw [h, mul_zero, mul_zero]
  · have hd := div_nonneg_of_ne hv hs h
    rw [Ideal.ofBits_zero_f32, ofBits_neg448, max_eq_right hd,
      max_eq_right (le_trans (by exact_mod_cast (by norm_num : (-448 : ℝ) ≤ 0)) hd)]

/-- The absolute value of a nonnegative number is that number. -/
theorem abs_of_nonneg' {v : EReal} (hv : 0 ≤ v) : max v (-v) = v :=
  max_eq_left (le_trans (by simpa using EReal.neg_le_neg_iff.mpr hv) hv)

variable {s t : Shape}

/-- What bounds every entry of an array bounds every entry of its re-laying, and the other way round. -/
theorem forall_shapeCast {α : Type} (x : s.Idx → α) (h : s.ShapeCasts t) (p : α → Prop) :
    (∀ j, p (shapeCast t x h j)) ↔ ∀ i, p (x i) := by
  constructor
  · intro H i
    have e : shapeCast s (shapeCast t x h) (Eq.symm h) i = x i := congrFun (shapeCast_shapeCast x h _) i
    rw [← e]
    exact H _
  · intro H j
    exact H _

/-- The maximum over all of an array, as a kernel takes it, lies below `z` exactly when every entry does. -/
theorem multiReduction_le {axes : List (Fin s.rank)} (src : FVec Ideal s .f32)
    (h : s.Reduces axes t) (ht : ∀ b, t.size b = 1) (hφ : FKind.Formats .f32)
    (hacc : (0xFF800000#32 : BitVec 32) = FKind.maximumf.neutral .f32 hφ) (j : t.Idx) (z : EReal) :
    multiReduction .maximumf axes t src 0xFF800000#32 h hφ hacc j ≤ z ↔ ∀ i, (src i : EReal) ≤ z := by
  rw [multiReduction_maximumf_eq_fold, Finset.filter_true_of_mem fun i _ => funext fun b => Fin.ext (by
    have := (h.drop i b).isLt; have := (j b).isLt; have := ht b; omega)]
  show Finset.fold max (Ideal.ofBits .f32 0xFF800000#32) src Finset.univ ≤ z ↔ _
  rw [Finset.fold_max_le, ofBits_bot]
  simp

/-- The same of the maximum that the reference takes. -/
theorem hostReduce_le {u : Shape} {axes : List (Fin s.rank)} (src : FVec Ideal s .f32) (h : s.ReducesTo axes t)
    (hu : 0 < u.numel) (ht : ∀ b, t.size b = 1) (j : t.Idx) (z : EReal) :
    (Host.reduce (FloatOps.maximumf (F := Ideal) (φ := .f32)) src (constant (F := Ideal) u .f32 0xFF800000#32) h hu j : EReal) ≤ z ↔ ∀ i, (src i : EReal) ≤ z := by
  rw [Host.reduce_eq_fold, Finset.filter_true_of_mem fun i _ => funext fun b => Fin.ext (by
    have := (h.drop i b).isLt; have := (j b).isLt; have := ht b; omega)]
  show Finset.fold max (Ideal.ofBits .f32 0xFF800000#32) src Finset.univ ≤ z ↔ _
  rw [Finset.fold_max_le, ofBits_bot]
  simp

end Cert.Exchange

end
-- ==== Proof.Product.lean ====
/-
  What the kernel's payloads compute over the extended reals: every tile is a block of the product of its two operands
  with the negative part cut off, the maximum of a device's four tiles is their least upper bound, and the scale is the
  maximum over the four devices divided by 448.
-/
module

public import proofs.«01_k».proof.Proof.Setup
public import proofs.«01_k».proof.Proof.Scalars
public import Idealize.ShloMosaic.Lib.MatmulPlain

@[expose] public section

noncomputable section

namespace Cert.Exchange

open Cert.KernelIdeal Cert.KernelIdeal.Gen

open Idealize.ShloMosaic
open Idealize.ShloMosaic.TcCoe
open Idealize.SL.Sem
open Idealize.ShloMosaic.ValueIdx

/-- Entry (r, j) of the product of a block of rows and a block of columns, with the negative part cut off. -/
def relu (w : FVec Ideal S4096x512 .f32) (x : FVec Ideal S1024x4096 .f32) (i : S1024x512.Idx) : EReal :=
  max (∑ k : Fin 4096, (x (ix2 (n0 := 1024) (n1 := 4096) (i 0) k) : EReal) * w (ix2 (n0 := 4096) (n1 := 512) k (i 1))) 0

theorem relu_nonneg (w : FVec Ideal S4096x512 .f32) (x : FVec Ideal S1024x4096 .f32) (i : S1024x512.Idx) : 0 ≤ relu w x i :=
  le_max_right _ _

theorem dot_plain : dot_S1024x4096_S4096x512_S1024x512_1_0_0_1_n_n = DotDims.plain 1024 4096 512 := rfl

/-- A product of a tile into the zero block, then the maximum with zero. -/
theorem relu_apply (w : FVec Ideal S4096x512 .f32) (x : FVec Ideal S1024x4096 .f32) (i : S1024x512.Idx) :
    maximumf (F := Ideal) (matmul dot_S1024x4096_S4096x512_S1024x512_1_0_0_1_n_n none x w (constant S1024x512 .f32 0x00000000#32))
      (broadcast S1024x512 (Scalar.ofBits .f32 0x00000000#32)) i = relu w x i := by
  obtain ⟨r, j, rfl⟩ : ∃ (r : Fin 1024) (j : Fin 512), i = ix2 r j := ⟨i 0, i 1, by
    funext a
    match a with
    | ⟨0, _⟩ => rfl
    | ⟨1, _⟩ => rfl⟩
  show max (FloatOps.matmul (F := Ideal) (φ₁ := .f32) (φ₂ := .f32) dot_S1024x4096_S4096x512_S1024x512_1_0_0_1_n_n none x w (constant S1024x512 .f32 0x00000000#32) (ix2 r j))
      (Ideal.ofBits .f32 0x00000000#32) = _
  rw [Ideal.ofBits_zero_f32, dot_plain]
  refine (congrArg (fun y : EReal => max y 0) (Ideal.matmul_plain_apply (M := 1024) (K := 4096) (N := 512) none x w _ r j)).trans ?_
  show max (Ideal.ofBits .f32 0x00000000#32 + _) 0 = _
  rw [Ideal.ofBits_zero_f32, zero_add]
  rfl

theorem pay1_apply (w : Vec Ideal S4096x512 .f32) (x : Vec Ideal S1024x4096 .f32) : k0_pay1 (F := Ideal) w x = relu w x := by
  funext i
  unfold k0_pay1
  simp only [shapeCast_self]
  exact relu_apply w x i

theorem pay6_apply (w : Vec Ideal S4096x512 .f32) (x : Vec Ideal S1024x4096 .f32) : k0_pay6 (F := Ideal) w x = relu w x := by
  funext i
  unfold k0_pay6
  simp only [shapeCast_self]
  exact relu_apply w x i

theorem pay9_apply (w : Vec Ideal S4096x512 .f32) (x : Vec Ideal S1024x4096 .f32) : k0_pay9 (F := Ideal) w x = relu w x := by
  funext i
  unfold k0_pay9
  simp only [shapeCast_self]
  exact relu_apply w x i

theorem pay4_apply (w : Vec Ideal S4096x512 .f32) (x : Vec Ideal S1024x4096 .f32) :
    k0_pay4 (F := Ideal) w x = shapeCast S1x1024x512 (relu w x) shapeCasts_S1024x512_S1x1024x512 := by
  have e := funext (relu_apply w x)
  unfold k0_pay4
  simp only [shapeCast_self]
  rw [← e]

/-- The one entry of a maximum that has been put in a box of size one. -/
theorem one_apply {s t : Shape} (src : FVec Ideal s .f32) {axes : List (Fin s.rank)}
    (h : s.Reduces axes S1) (hφ : FKind.Formats .f32)
    (hacc : (0xFF800000#32 : BitVec 32) = FKind.maximumf.neutral .f32 hφ) (hc : S1.ShapeCasts t) (p : Fin t.rank → ℕ)
    (hp : ∀ a, p a < t.size a) (z : EReal) :
    (extractAt p (shapeCast t (multiReduction .maximumf axes S1 src 0xFF800000#32 h hφ hacc) hc) hp : EReal) ≤ z
      ↔ ∀ i, (src i : EReal) ≤ z :=
  multiReduction_le src h (fun b => match b with | ⟨0, _⟩ => rfl) hφ hacc _ z

theorem pay3_le (v : FVec Ideal S1x1024x512 .f32) (z : EReal) :
    (k0_pay3 (F := Ideal) v : EReal) ≤ z ↔ ∀ i, (v i : EReal) ≤ z :=
  one_apply v _ _ _ _ _ _ z

theorem pay5_le (a : Ideal .f32) (v : Vec Ideal S1x1024x512 .f32) (z : EReal) :
    (k0_pay5 (F := Ideal) a v : EReal) ≤ z ↔ (a : EReal) ≤ z ∧ ∀ i, (v i : EReal) ≤ z := by
  unfold k0_pay5
  simp only [shapeCast_shapeCast]
  exact max_le_iff.trans (and_congr Iff.rfl (one_apply v _ _ _ _ _ _ z))

theorem pay8_le (a : Ideal .f32) (v : Vec Ideal S1x1024x512 .f32) (z : EReal) :
    (k0_pay8 (F := Ideal) a v : EReal) ≤ z ↔ (a : EReal) ≤ z ∧ ∀ i, (v i : EReal) ≤ z := by
  unfold k0_pay8
  simp only [shapeCast_shapeCast]
  exact max_le_iff.trans (and_congr Iff.rfl (one_apply v _ _ _ _ _ _ z))

theorem pay10_le (a : Ideal .f32) (v : Vec Ideal S1024x512 .f32) (z : EReal) :
    (k0_pay10 (F := Ideal) a v : EReal) ≤ z ↔ (a : EReal) ≤ z ∧ ∀ i, (v i : EReal) ≤ z := by
  unfold k0_pay10
  exact max_le_iff.trans (and_congr Iff.rfl ((one_apply _ _ _ _ _ _ _ z).trans (forall_shapeCast v _ (fun y : EReal => y ≤ z))))

/-- The greatest entry of an array of maxima. -/
def top (v : Vec Ideal S4x8x128 .f32) : EReal :=
  extractAt ![0, 0, 0, 0] (shapeCast S1x1x1x1 (multiReduction (F := Ideal) .maximumf [1, 2, 3] S1
    (shapeCast S1x4x8x128 v shapeCasts_S4x8x128_S1x4x8x128) 0xFF800000#32 reduces_S1x4x8x128_S1 (.inl rfl) rfl)
    shapeCasts_S1_S1x1x1x1) inpos_S1x1x1x1_p0_0_0_0

theorem top_le (v : Vec Ideal S4x8x128 .f32) (z : EReal) : top v ≤ z ↔ ∀ i, (v i : EReal) ≤ z :=
  (one_apply _ _ _ _ _ _ _ z).trans (forall_shapeCast v _ (fun y : EReal => y ≤ z))

theorem pay12_eq (v : Vec Ideal S4x8x128 .f32) :
    (k0_pay12 (F := Ideal) v : EReal) = Ideal.div (top v) (Ideal.ofBits .f32 0x43E00000#32) := rfl

/-- The kernel's quantiser at an index. -/
theorem pay13_apply (a : Vec Ideal S4x8x128 .f32) (v : Vec Ideal S1024x512 .f32) (i : S1024x512.Idx) :
    (k0_pay13 (F := Ideal) a v i : EReal)
      = min (Ideal.ofBits .f32 0x43E00000#32) (max (Ideal.ofBits .f32 0x00000000#32) (Ideal.div (v i) (k0_pay12 (F := Ideal) a)))
        * k0_pay12 (F := Ideal) a := by
  unfold k0_pay13
  simp only [shapeCast_self]
  rfl

variable (m : (ℓ : Loc nD τ sig) → Buf (Elt Ideal) ℓ) (ρ : Dev nD → PrngReg)

/-- A device's maximum lies below `z` exactly when every entry of its four tiles does. -/
theorem amax_le (c : Dev nD) (z : EReal) :
    (amax m ρ c : EReal) ≤ z ↔ ∀ (d : Dev nD) (i : S1024x512.Idx), relu (wv m ρ d) (xv m ρ c) i ≤ z := by
  have hd : ∀ (d : Dev nD), d = c ∨ d = lf c ∨ d = rt c ∨ d = fr c := by revert c; decide
  unfold amax
  rw [pay10_le, pay8_le, pay5_le, pay3_le, pay9_apply, pay4_apply]
  unfold k0_pay2 k0_pay7
  rw [forall_shapeCast _ _ (fun y : EReal => y ≤ z), forall_shapeCast _ _ (fun y : EReal => y ≤ z),
    forall_shapeCast _ _ (fun y : EReal => y ≤ z), pay1_apply, pay6_apply]
  constructor
  · rintro ⟨⟨⟨h1, h2⟩, h3⟩, h4⟩ d i
    rcases hd d with rfl | rfl | rfl | rfl
    · exact h1 i
    · exact h2 i
    · exact h3 i
    · exact h4 i
  · intro h
    exact ⟨⟨⟨h _, h _⟩, h _⟩, h _⟩

theorem top_amaxC_le (z : EReal) :
    top (amaxC m ρ) ≤ z ↔ ∀ (c d : Dev nD) (i : S1024x512.Idx), relu (wv m ρ d) (xv m ρ c) i ≤ z := by
  rw [top_le]
  constructor
  · intro h c
    have := h (fun a => match a with
      | ⟨0, _⟩ => (⟨c.val, c.isLt⟩ : Fin 4)
      | ⟨1, _⟩ => (⟨0, by decide⟩ : Fin 8)
      | ⟨2, _⟩ => (⟨0, by decide⟩ : Fin 128))
    exact (amax_le m ρ c z).mp this
  · intro h i
    exact (amax_le m ρ _ z).mpr (h _)

/-- The kernel's result at an index of device `c`. -/
theorem outFin_apply (c : Dev nD) (i : S4096x512.Idx) :
    (outFin m ρ c i : EReal)
      = min (Ideal.ofBits .f32 0x43E00000#32) (max (Ideal.ofBits .f32 0x00000000#32)
          (Ideal.div (relu (wv m ρ c) (xv m ρ (rdev i)) (ridx i)) (Ideal.div (top (amaxC m ρ)) (Ideal.ofBits .f32 0x43E00000#32))))
        * Ideal.div (top (amaxC m ρ)) (Ideal.ofBits .f32 0x43E00000#32) := by
  unfold outFin
  rw [pay13_apply, pay12_eq, show outRaw m ρ c (rin (rdev i) (ridx i)) = relu (wv m ρ c) (xv m ρ (rdev i)) (ridx i) from by
    unfold outRaw
    rw [rdev_rin, ridx_rin, pay1_apply]]

end Cert.Exchange

end
-- ==== Proof.Reference.lean ====
/-
  The reference's result as one function of its two operands: the product with the negative part cut off, the greatest
  absolute value of its entries over 448 as the scale, and every entry put through the quantiser at that scale.
-/
module

public import proofs.«01_k».proof.Proof.Gen.ReferenceIdeal.Value
public import proofs.«01_k».proof.Proof.Scalars
public import proofs.«01_k».proof.Proof.Whole
public import Idealize.ShloMosaic.Lib.MatmulPlain

@[expose] public section

noncomputable section

namespace Cert.Exchange.Plain

open Cert.ReferenceIdeal Cert.ReferenceIdeal.Gen

open Idealize.ShloMosaic
open Idealize.ShloMosaic.TcCoe
open Idealize.SL.Sem
open Idealize.ShloMosaic.ValueIdx

variable (m : (ℓ : Loc nD τ sig) → Buf (Elt Ideal) ℓ)

/-- The product with the negative part cut off, in the reference's own operations. -/
def cut (x : FVec Ideal S4096x4096 .f32) (w : FVec Ideal S4096x2048 .f32) : FVec Ideal S4096x2048 .f32 :=
  maximumf (F := Ideal) (Host.dotGeneral dot_S4096x4096_S4096x2048_S4096x2048_1_0_0_1_n_n none x w)
    (broadcastInDim S4096x2048 ![] bcast_S_S4096x2048 (constant (F := Ideal) S_ .f32 0x00000000#32))
/-- Its scale, in the reference's own operations. -/
def scale (y : FVec Ideal S4096x2048 .f32) : FVec Ideal S_ .f32 :=
  Host.divf (F := Ideal) (Host.reduce (FloatOps.maximumf (F := Ideal) (φ := .f32)) (Host.absf (F := Ideal) y)
    (constant (F := Ideal) S_ .f32 0xFF800000#32) reducesTo_S4096x2048_S_d0_1 h_S_)
    (constant (F := Ideal) S_ .f32 0x43E00000#32)

theorem V_v2 (c : Dev nD) : V m c main_v2 = cut (m ((c : Thread nD τ).loc main_arg0)) (m ((c : Thread nD τ).loc main_arg1)) := by
  unfold V hostOps0 cut
  after_results

theorem V_v6 (c : Dev nD) : V m c main_v6
    = shapeCast S1x1 (scale (cut (m ((c : Thread nD τ).loc main_arg0)) (m ((c : Thread nD τ).loc main_arg1)))) shapeCasts_S_S1x1 := by
  unfold V hostOps0 cut scale
  after_results <;> rfl

theorem read_win0 (t : Fin cfg0.N) (f : (main_v2.ty).Contents (Elt Ideal)) : (win0_0.blk t).view.read (Elt Ideal) f = f :=
  read_block (Val := Elt Ideal) (Memref.whole main_v2) false false (stage0_0 0) (sem0_0 0) (Memref.isWhole_whole _) (hstage0_0 0) t f
theorem read_win1 (t : Fin cfg0.N) (f : (main_v6.ty).Contents (Elt Ideal)) : (win0_1.blk t).view.read (Elt Ideal) f = f :=
  read_block (Val := Elt Ideal) (Memref.whole main_v6) false false (stage0_1 0) (sem0_1 0) (Memref.isWhole_whole _) (hstage0_1 0) t f
theorem read_win2 (t : Fin cfg0.N) (f : (main_v7.ty).Contents (Elt Ideal)) : (win0_2.blk t).view.read (Elt Ideal) f = f :=
  read_block (Val := Elt Ideal) (Memref.whole main_v7) true false (stage0_2 0) (sem0_2 0) (Memref.isWhole_whole _) (hstage0_2 0) t f

/-- The result array is the quantiser of the product at its scale. -/
theorem result_eq (c : Dev nD) :
    (dats m 0 c).arrAt 2 cfg0.N = k0_pay1 (F := Ideal) (V m c main_v6) (V m c main_v2) := by
  have h := Cert.ReferenceIdeal.Value.blocks2 m c (0 : Fin 1) rfl
  have e : (dats m 0 c).arrAt 2 cfg0.N = out0_2 (iblk m c 0 (0 : Fin 1)) (iblk m c 1 (0 : Fin 1)) :=
    (read_win2 (0 : Fin 1) _).symm.trans (h.trans (Cert.ReferenceIdeal.Value.flushed2 m c (0 : Fin 1)))
  have e0 : iblk m c 0 (0 : Fin 1) = V m c main_v2 := read_win0 (0 : Fin 1) _
  have e1 : iblk m c 1 (0 : Fin 1) = V m c main_v6 := read_win1 (0 : Fin 1) _
  have hz : (![0, 0] : Fin 2 → ℕ) = fun _ => 0 := by funext a; fin_cases a <;> rfl
  rw [e, e0, e1]
  unfold out0_2
  rw [View.canon_unit_zero hz, View.ld_unit_zero hz, View.ld_unit_zero hz]

/-- Entry (r, j) of the product with the negative part cut off, as a sum. -/
theorem cut_apply (x : FVec Ideal S4096x4096 .f32) (w : FVec Ideal S4096x2048 .f32) (i : S4096x2048.Idx) :
    (cut x w i : EReal)
      = max (∑ k : Fin 4096, (x (ix2 (n0 := 4096) (n1 := 4096) (i 0) k) : EReal) * w (ix2 (n0 := 4096) (n1 := 2048) k (i 1))) 0 := by
  obtain ⟨r, j, rfl⟩ : ∃ (r : Fin 4096) (j : Fin 2048), i = ix2 r j := ⟨i 0, i 1, by
    funext a
    match a with
    | ⟨0, _⟩ => rfl
    | ⟨1, _⟩ => rfl⟩
  show max (FloatOps.matmul (F := Ideal) (φ₁ := .f32) (φ₂ := .f32) (DotDims.plain 4096 4096 2048) none x w (fun _ => (0 : EReal)) (ix2 r j))
      (Ideal.ofBits .f32 0x00000000#32) = _
  rw [Ideal.ofBits_zero_f32]
  refine (congrArg (fun y : EReal => max y 0) (Ideal.matmul_plain_apply (M := 4096) (K := 4096) (N := 2048) none x w _ r j)).trans ?_
  show max ((0 : EReal) + _) 0 = _
  rw [zero_add]

theorem cut_nonneg (x : FVec Ideal S4096x4096 .f32) (w : FVec Ideal S4096x2048 .f32) (i : S4096x2048.Idx) : (0 : EReal) ≤ cut x w i := by
  rw [cut_apply]
  exact le_max_right _ _

/-- The greatest absolute value of an array's entries. -/
def top (y : FVec Ideal S4096x2048 .f32) : EReal :=
  Host.reduce (FloatOps.maximumf (F := Ideal) (φ := .f32)) (Host.absf (F := Ideal) y)
    (constant (F := Ideal) S_ .f32 0xFF800000#32) reducesTo_S4096x2048_S_d0_1 h_S_ (Shape.Idx.first h_S_)

theorem top_le (y : FVec Ideal S4096x2048 .f32) (hy : ∀ i, (0 : EReal) ≤ y i) (z : EReal) : top y ≤ z ↔ ∀ i, (y i : EReal) ≤ z := by
  refine (hostReduce_le _ _ _ (fun b => b.elim0) _ z).trans (forall_congr' fun i => ?_)
  show max (y i : EReal) (-(y i : EReal)) ≤ z ↔ _
  rw [abs_of_nonneg' (hy i)]

/-- The reference's quantiser at an index. -/
theorem quant_apply (y : FVec Ideal S4096x2048 .f32) (i : S4096x2048.Idx) :
    (k0_pay1 (F := Ideal) (shapeCast S1x1 (scale y) shapeCasts_S_S1x1) y i : EReal)
      = min (Ideal.ofBits .f32 0x43E00000#32) (max (Ideal.ofBits .f32 0xC3E00000#32)
          (Ideal.div (y i) (Ideal.div (top y) (Ideal.ofBits .f32 0x43E00000#32))))
        * Ideal.div (top y) (Ideal.ofBits .f32 0x43E00000#32) := by
  have e : extractAt ![0, 0] (shapeCast S1x1 (scale y) shapeCasts_S_S1x1) inpos_S1x1_p0_0
      = scale y (Shape.Idx.first h_S_) := congrArg (scale y) (funext fun b => b.elim0)
  unfold k0_pay1
  simp only [shapeCast_self, e]
  rfl

/-- The reference's result at an index. -/
theorem result_apply (c : Dev nD) (i : S4096x2048.Idx) :
    ((dats m 0 c).arrAt 2 cfg0.N i : EReal)
      = min (Ideal.ofBits .f32 0x43E00000#32) (max (Ideal.ofBits .f32 0xC3E00000#32)
          (Ideal.div (cut (m ((c : Thread nD τ).loc main_arg0)) (m ((c : Thread nD τ).loc main_arg1)) i)
            (Ideal.div (top (cut (m ((c : Thread nD τ).loc main_arg0)) (m ((c : Thread nD τ).loc main_arg1)))) (Ideal.ofBits .f32 0x43E00000#32))))
        * Ideal.div (top (cut (m ((c : Thread nD τ).loc main_arg0)) (m ((c : Thread nD τ).loc main_arg1)))) (Ideal.ofBits .f32 0x43E00000#32) := by
  rw [result_eq, V_v2, V_v6]
  exact quant_apply _ i

end Cert.Exchange.Plain

end
-- ==== Proof.Equal.lean ====
/-
  The kernel on four devices computes the reference: a device's tile of the product is a block of the whole product, the
  maximum over all tiles is the maximum over the whole product, so the scales are the same number, and the two clips
  agree on what is left.
-/
module

public import proofs.«01_k».proof.Proof.Frames
public import proofs.«01_k».proof.Proof.Result
public import proofs.«01_k».proof.Proof.Product
public import proofs.«01_k».proof.Proof.Reference
public import Idealize.ShloMosaic.Lib.Layout
public import proofs.«01_k».proof.Defs

@[expose] public section

noncomputable section

namespace Cert.Exchange

open Cert.KernelIdeal Cert.KernelIdeal.Gen

open Idealize.ShloMosaic
open Idealize.ShloMosaic.TcCoe
open Idealize.SL.Sem
open Idealize.ShloMosaic.ValueIdx

variable (m : (ℓ : Loc nD τ sig) → Buf (Elt Ideal) ℓ) (ρ : Dev nD → PrngReg)
variable (x : FVec Ideal Cert.ReferenceIdeal.S4096x4096 .f32) (w : FVec Ideal Cert.ReferenceIdeal.S4096x2048 .f32)

/-- The devices' operands are blocks of the whole ones: rows of `x`, columns of `w`. -/
def Shared : Prop := ∀ c : Dev nD,
  m ((c : Thread nD τ).loc main_arg0) = Layout.block ⟨2, ![1024, 4096]⟩ ⟨2, ![4096, 4096]⟩ 0 4 c x
  ∧ m ((c : Thread nD τ).loc main_arg1) = Layout.block ⟨2, ![4096, 512]⟩ ⟨2, ![4096, 2048]⟩ 1 4 c w

/-- Place `i` of the tile in row block `c` and column block `d`, in the whole product. -/
def place (c d : Dev nD) (i : S1024x512.Idx) : Cert.ReferenceIdeal.S4096x2048.Idx :=
  ix2 (n0 := 4096) (n1 := 2048)
    ⟨c.val * 1024 + (i 0).val, by have h : (i 0).val < 1024 := (i 0).isLt; have h' : c.val < 4 := c.isLt; omega⟩
    ⟨d.val * 512 + (i 1).val, by have h : (i 1).val < 512 := (i 1).isLt; have h' : d.val < 4 := d.isLt; omega⟩

/-- Every index of the whole product is a place of some tile. -/
theorem exists_place (J : Cert.ReferenceIdeal.S4096x2048.Idx) : ∃ c d i, place c d i = J := by
  have h0 : (J 0).val < 4096 := (J 0).isLt
  have h1 : (J 1).val < 2048 := (J 1).isLt
  refine ⟨⟨(J 0).val / 1024, by show _ < 4; omega⟩, ⟨(J 1).val / 512, by show _ < 4; omega⟩,
    ix2 (n0 := 1024) (n1 := 512) ⟨(J 0).val % 1024, by omega⟩ ⟨(J 1).val % 512, by omega⟩, ?_⟩
  funext a
  match a with
  | ⟨0, _⟩ => refine Fin.ext ?_; show (J 0).val / 1024 * 1024 + (J 0).val % 1024 = (J 0).val; omega
  | ⟨1, _⟩ => refine Fin.ext ?_; show (J 1).val / 512 * 512 + (J 1).val % 512 = (J 1).val; omega

variable {m x w}

/-- A tile is a block of the product. -/
theorem relu_eq_cut (h : Shared m x w) (c d : Dev nD) (i : S1024x512.Idx) :
    relu (wv m ρ d) (xv m ρ c) i = Plain.cut x w (place c d i) := by
  rw [Plain.cut_apply, xv_eq, wv_eq, (h c).1, (h d).2]
  refine congrArg (fun y : EReal => max y 0) (Finset.sum_congr rfl fun k _ => ?_)
  refine congrArg₂ (fun a b : EReal => a * b) (congrArg x (funext fun a => ?_)) (congrArg w (funext fun a => ?_))
  · match a with
    | ⟨0, _⟩ => rfl
    | ⟨1, _⟩ => rfl
  · match a with
    | ⟨0, _⟩ => rfl
    | ⟨1, _⟩ => rfl

/-- The two scales are the same number. -/
theorem top_eq (h : Shared m x w) : top (amaxC m ρ) = Plain.top (Plain.cut x w) := by
  refine eq_of_forall_ge_iff fun z => ?_
  rw [top_amaxC_le, Plain.top_le _ (Plain.cut_nonneg x w)]
  constructor
  · intro H J
    obtain ⟨c, d, i, rfl⟩ := exists_place J
    rw [← relu_eq_cut ρ h c d i]
    exact H c d i
  · intro H c d i
    rw [relu_eq_cut ρ h c d i]
    exact H _

/-- The greatest entry is not negative. -/
theorem top_nonneg : 0 ≤ Plain.top (Plain.cut x w) :=
  (Plain.cut_nonneg x w _).trans ((Plain.top_le _ (Plain.cut_nonneg x w) _).mp le_rfl
    (place (0 : Fin 4) (0 : Fin 4) (ix2 (n0 := 1024) (n1 := 512) 0 0)))

/-- Where place `i` of device `c`'s columns is in the whole product. -/
theorem place_cols (c : Dev nD) (i : S4096x512.Idx) (hT : Layout.Tiles ⟨2, ![4096, 512]⟩ ⟨2, ![4096, 2048]⟩ 1 4) :
    hT.idx c i = place (rdev i) c (ridx i) := by
  funext a
  match a with
  | ⟨0, _⟩ => refine Fin.ext ?_; show (i 0).val = (i 0).val / 1024 * 1024 + (i 0).val % 1024; omega
  | ⟨1, _⟩ => rfl

variable (m' : (ℓ : Loc Cert.ReferenceIdeal.nD Cert.ReferenceIdeal.τ Cert.ReferenceIdeal.sig) → Buf (Elt Ideal) ℓ)

/-- The reference's result. -/
def whole : FVec Ideal Cert.ReferenceIdeal.S4096x2048 .f32 :=
  (Cert.ReferenceIdeal.Gen.dats m' 0 (0 : Fin 1)).arrAt 2 Cert.ReferenceIdeal.cfg0.N

/-- The kernel's result on device `c` is block `c` of the reference's. -/
theorem outFin_eq (h : Shared m (m' (((0 : Fin 1) : Thread Cert.ReferenceIdeal.nD Cert.ReferenceIdeal.τ).loc Cert.ReferenceIdeal.main_arg0))
      (m' (((0 : Fin 1) : Thread Cert.ReferenceIdeal.nD Cert.ReferenceIdeal.τ).loc Cert.ReferenceIdeal.main_arg1))) (c : Dev nD) :
    outFin m ρ c = Layout.block ⟨2, ![4096, 512]⟩ ⟨2, ![4096, 2048]⟩ 1 4 c (whole m') := by
  funext i
  rw [Layout.block_apply, place_cols]
  refine (outFin_apply m ρ c i).trans (Eq.trans ?_ (Plain.result_apply m' (0 : Fin 1) _).symm)
  rw [relu_eq_cut ρ h, top_eq ρ h]
  exact clip_eq (Plain.cut_nonneg _ _ _) (scale_nonneg top_nonneg) _

theorem equal : Cert.algebraic_KernelIdeal_ReferenceIdeal := by
  intro m g m' g' _ hcut
  refine ⟨whole m', ?_, ?_⟩
  · refine (θ_run _ _ _).mono (fun r h c => ⟨?_, ?_, ?_⟩) (run_main (F := Ideal) m g)
    · exact (h.1 c (2 : Fin 3)).trans ((finalA_out m g c).trans (outFin_eq g m' hcut c))
    · exact (h.1 c (0 : Fin 3)).trans (finalA_x m g c)
    · exact (h.1 c (1 : Fin 3)).trans (finalA_w m g c)
  · exact (θ_run _ _ _).mono (fun r h => h (0 : Fin 1)) (Cert.ReferenceIdeal.Value.run_blocks (F := Ideal) m' g')

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Exchange.frame_kernel, Cert.Exchange.frame_ideal, fun m ρ _ => Cert.ReferenceIdeal.Gen.frame m ρ, trivial,
    Cert.Exchange.equal⟩

end Cert.Proof

end
